-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S4x512x512 : Shape := ⟨3, ![4, 512, 512]⟩
abbrev S8x512x512 : Shape := ⟨3, ![8, 512, 512]⟩
abbrev S4x512x2048 : Shape := ⟨3, ![4, 512, 2048]⟩
abbrev S8 : Shape := ⟨1, ![8]⟩
abbrev S4 : Shape := ⟨1, ![4]⟩
abbrev S_ : Shape := ⟨0, ![]⟩
abbrev S1x512x512 : Shape := ⟨3, ![1, 512, 512]⟩
abbrev S512x512 : Shape := ⟨2, ![512, 512]⟩
abbrev S1x512x2048 : Shape := ⟨3, ![1, 512, 2048]⟩
abbrev S1x512x1024 : Shape := ⟨3, ![1, 512, 1024]⟩
abbrev S512x1024 : Shape := ⟨2, ![512, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S512x2048, .f32⟩
  | .local _ .vmem, ⟨1, _⟩ => ⟨S4x512x512, .f32⟩
  | .local _ .vmem, ⟨2, _⟩ => ⟨S4096x512, .fp8e5m2⟩
  | .local _ .vmem, ⟨3, _⟩ => ⟨S8x512x512, .fp8e5m2⟩
  | .local _ .vmem, ⟨4, _⟩ => ⟨S4x512x2048, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 32 := Scalar.xori v2 c2_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v19 : BitVec 32 := Scalar.xori v2 c7_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 32 := Scalar.xori v2 c6_i32
  let c1_i32_19 : BitVec 32 := 1#32
  let v23 : BitVec 32 := Scalar.muli v22 c1_i32_19
  let v24 : BitVec 32 := Scalar.addi c0_i32_20 v23
  v24.toNat
def k0_off1 (d0 : Dev nD) (c1_i32_21 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.xori v2 c1_i32_21
  let c512_i32 : BitVec 32 := 512#32
  let v26 : BitVec 32 := Scalar.muli v25 c512_i32
  let c0_i32_26 : BitVec 32 := 0#32
  ![v26.toNat, 0]
def k0_off2 (d0 : Dev nD) (c1_i32_55 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v60 : BitVec 32 := Scalar.xori v2 c1_i32_55
  let c512_i32_58 : BitVec 32 := 512#32
  let v64 : BitVec 32 := Scalar.muli v60 c512_i32_58
  let v65 : Index := Scalar.indexCast v64
  let c0_59 : Index := 0#32
  ![v65.toNat, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_66 : BitVec 32 := 0#32
  let c0_i32_67 : BitVec 32 := 0#32
  ![v2.toNat, 0, 0]
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_55 : BitVec 32 := 1#32
  let v60 : BitVec 32 := Scalar.xori v2 c1_i32_55
  let c1_i32_64 : BitVec 32 := 1#32
  let v70 : BitVec 32 := Scalar.muli v60 c1_i32_64
  let v71 : BitVec 32 := Scalar.addi c0_i32_65 v70
  v71.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_83 : BitVec 32 := 3#32
  let v93 : BitVec 32 := Scalar.xori v2 c3_i32_83
  let c1_i32_91 : BitVec 32 := 1#32
  let v103 : BitVec 32 := Scalar.muli v93 c1_i32_91
  let v104 : BitVec 32 := Scalar.addi c0_i32_92 v103
  v104.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v126 : BitVec 32 := Scalar.xori v2 c2_i32_110
  let c1_i32_118 : BitVec 32 := 1#32
  let v136 : BitVec 32 := Scalar.muli v126 c1_i32_118
  let v137 : BitVec 32 := Scalar.addi c0_i32_119 v136
  v137.toNat
def k0_dev11 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_137 : BitVec 32 := 4#32
  let v159 : BitVec 32 := Scalar.xori v2 c4_i32_137
  let c1_i32_145 : BitVec 32 := 1#32
  let v169 : BitVec 32 := Scalar.muli v159 c1_i32_145
  let v170 : BitVec 32 := Scalar.addi c0_i32_146 v169
  v170.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_150 : BitVec 32 := 512#32
  let v178 : BitVec 32 := Scalar.muli v2 c512_i32_150
  let c0_i32_155 : BitVec 32 := 0#32
  ![v178.toNat, 0]
def k0_dev12 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_163 : BitVec 32 := 5#32
  let v191 : BitVec 32 := Scalar.xori v2 c5_i32_163
  let c1_i32_172 : BitVec 32 := 1#32
  let v201 : BitVec 32 := Scalar.muli v191 c1_i32_172
  let v202 : BitVec 32 := Scalar.addi c0_i32_173 v201
  v202.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_177 : BitVec 32 := 512#32
  let v210 : BitVec 32 := Scalar.muli v2 c512_i32_177
  let c0_i32_182 : BitVec 32 := 0#32
  ![v210.toNat, 0]
def k0_dev13 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_190 : BitVec 32 := 7#32
  let v223 : BitVec 32 := Scalar.xori v2 c7_i32_190
  let c1_i32_199 : BitVec 32 := 1#32
  let v233 : BitVec 32 := Scalar.muli v223 c1_i32_199
  let v234 : BitVec 32 := Scalar.addi c0_i32_200 v233
  v234.toNat
def k0_off6 (d0 : Dev nD) (c1_i32_204 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v242 : BitVec 32 := Scalar.xori v2 c1_i32_204
  let c512_i32_205 : BitVec 32 := 512#32
  let v243 : BitVec 32 := Scalar.muli v242 c512_i32_205
  let c0_i32_210 : BitVec 32 := 0#32
  ![v243.toNat, 0]
def k0_dev14 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_218 : BitVec 32 := 6#32
  let v256 : BitVec 32 := Scalar.xori v2 c6_i32_218
  let c1_i32_227 : BitVec 32 := 1#32
  let v266 : BitVec 32 := Scalar.muli v256 c1_i32_227
  let v267 : BitVec 32 := Scalar.addi c0_i32_228 v266
  v267.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v292 : Index := Scalar.indexCast v2
  let c0_248 : Index := 0#32
  let c0_249 : Index := 0#32
  ![v292.toNat, 0, 0]
def k0_off8 (d0 : Dev nD) (c1_i32_287 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v338 : BitVec 32 := Scalar.xori v2 c1_i32_287
  let c0_i32_293 : BitVec 32 := 0#32
  let c0_i32_294 : BitVec 32 := 0#32
  ![v338.toNat, 0, 0]
def k0_off9 (d0 : Dev nD) (c1_i32_297 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v347 : BitVec 32 := Scalar.xori v2 c1_i32_297
  let v348 : Index := Scalar.indexCast v347
  let c0_298 : Index := 0#32
  let c0_299 : Index := 0#32
  ![v348.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.KernelIdeal.Setup.lean ====
/-
The exchange of the `x` blocks between the eight devices: names of the buffers' pieces and of the cells, what each piece
holds at each moment, and the schedule of the cells (who pays what, and what comes with it).

Device `c`'s partner under the mask `m` is `px m c`, the device whose number is `c`'s number XOR `m`. Device `c` sends to each of
its seven partners the rows of its own `x` that the partner needs, cast to the eight-bit format, and receives from each of
them the rows of the partner's `x` that `c` needs.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra: the pipeline library's rounds, the exchange's rounds (duties named by masks), the local copies' counters -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partners -/

theorem xor_lt (a b : Fin 8) : a.val ^^^ b.val < 8 := Nat.xor_lt_two_pow (n := 3) a.isLt b.isLt

/-- The device whose number is `c`'s XOR `k`. -/
def px (k : Fin 8) (c : Dev nD) : Dev nD := ⟨c.val ^^^ k.val, xor_lt c k⟩

theorem px_px (k : Fin 8) (c : Dev nD) : px k (px k c) = c := by revert k c; decide
theorem px_zero (c : Dev nD) : px 0 c = c := by revert c; decide
theorem px_inj (k k' : Fin 8) (c : Dev nD) (h : px k c = px k' c) : k = k' := by revert k k' c; decide

/-- Swapping every device with its partner under `k`. -/
def swap (k : Fin 8) : Dev nD ≃ Dev nD := ⟨px k, px k, px_px k, px_px k⟩
/-- For a fixed device, its partner under each mask: every device once (itself under the mask 0). -/
def partners (c : Dev nD) : Fin 8 ≃ Dev nD :=
  ⟨fun k => px k c, fun d => px d c, fun k => by revert k c; decide, fun d => by revert d c; decide⟩

theorem dev1_eq (c : Dev nD) : (⟨k0_dev1 c, k0_dev1_lt c⟩ : Dev nD) = px 1 c := by revert c; decide +kernel
theorem dev2_eq (c : Dev nD) : (⟨k0_dev2 c, k0_dev2_lt c⟩ : Dev nD) = px 3 c := by revert c; decide +kernel
theorem dev3_eq (c : Dev nD) : (⟨k0_dev3 c, k0_dev3_lt c⟩ : Dev nD) = px 2 c := by revert c; decide +kernel
theorem dev4_eq (c : Dev nD) : (⟨k0_dev4 c, k0_dev4_lt c⟩ : Dev nD) = px 4 c := by revert c; decide +kernel
theorem dev5_eq (c : Dev nD) : (⟨k0_dev5 c, k0_dev5_lt c⟩ : Dev nD) = px 5 c := by revert c; decide +kernel
theorem dev6_eq (c : Dev nD) : (⟨k0_dev6 c, k0_dev6_lt c⟩ : Dev nD) = px 7 c := by revert c; decide +kernel
theorem dev7_eq (c : Dev nD) : (⟨k0_dev7 c, k0_dev7_lt c⟩ : Dev nD) = px 6 c := by revert c; decide +kernel
theorem dev8_eq (c : Dev nD) : (⟨k0_dev8 c, k0_dev8_lt c⟩ : Dev nD) = px 1 c := by revert c; decide +kernel
theorem dev9_eq (c : Dev nD) : (⟨k0_dev9 c, k0_dev9_lt c⟩ : Dev nD) = px 3 c := by revert c; decide +kernel
theorem dev10_eq (c : Dev nD) : (⟨k0_dev10 c, k0_dev10_lt c⟩ : Dev nD) = px 2 c := by revert c; decide +kernel
theorem dev11_eq (c : Dev nD) : (⟨k0_dev11 c, k0_dev11_lt c⟩ : Dev nD) = px 4 c := by revert c; decide +kernel
theorem dev12_eq (c : Dev nD) : (⟨k0_dev12 c, k0_dev12_lt c⟩ : Dev nD) = px 5 c := by revert c; decide +kernel
theorem dev13_eq (c : Dev nD) : (⟨k0_dev13 c, k0_dev13_lt c⟩ : Dev nD) = px 7 c := by revert c; decide +kernel
theorem dev14_eq (c : Dev nD) : (⟨k0_dev14 c, k0_dev14_lt c⟩ : Dev nD) = px 6 c := by revert c; decide +kernel

theorem off1_eq (k : Fin 8) (c : Dev nD) : k0_off1 c (BitVec.ofNat 32 k.val) = ![512 * (px k c).val, 0] := by revert k c; decide +kernel
theorem off2_eq (k : Fin 8) (c : Dev nD) : k0_off2 c (BitVec.ofNat 32 k.val) = ![512 * (px k c).val, 0] := by revert k c; decide +kernel
theorem off6_eq (k : Fin 8) (c : Dev nD) : k0_off6 c (BitVec.ofNat 32 k.val) = ![512 * (px k c).val, 0] := by revert k c; decide +kernel
theorem off8_eq (k : Fin 8) (c : Dev nD) : k0_off8 c (BitVec.ofNat 32 k.val) = ![(px k c).val, 0, 0] := by revert k c; decide +kernel
theorem off9_eq (k : Fin 8) (c : Dev nD) : k0_off9 c (BitVec.ofNat 32 k.val) = ![(px k c).val, 0, 0] := by revert k c; decide +kernel

/-! ## The semaphores -/

theorem inb_S4 (s : Fin 4) : ∀ a, (![s.val] : Fin 1 → Nat) a + S1.size a ≤ S4.size a := by revert s; decide
theorem inb_S8 (k : Fin 8) : ∀ a, (![k.val] : Fin 1 → Nat) a + S1.size a ≤ S8.size a := by revert k; decide

/-- The semaphore of slot `s` of the local copies of `x` blocks, -/
abbrev xdS (s : Fin 4) : DmaSem sig := ((cc0_scratch6.slice (Rect.unit (s := S4) ![s.val] S1.size (inb_S4 s))).squeeze S_ squeezes_S1_S_).sem
/-- of slot `s` of the local copies of `w` blocks, -/
abbrev wdS (s : Fin 4) : DmaSem sig := ((cc0_scratch7.slice (Rect.unit (s := S4) ![s.val] S1.size (inb_S4 s))).squeeze S_ squeezes_S1_S_).sem
/-- of the sends under the mask `k`, -/
abbrev sendS (k : Fin 8) : DmaSem sig := ((cc0_scratch4.slice (Rect.unit (s := S8) ![k.val] S1.size (inb_S8 k))).squeeze S_ squeezes_S1_S_).sem
/-- of the arrivals under the mask `k`, -/
abbrev recvS (k : Fin 8) : DmaSem sig := ((cc0_scratch5.slice (Rect.unit (s := S8) ![k.val] S1.size (inb_S8 k))).squeeze S_ squeezes_S1_S_).sem
/-- and the barrier's. -/
abbrev barS : Sem sig := (SemArray.scalar (sig.barrier 0 rfl) : Sems sig S_).sem

theorem xdS_val (s : Fin 4) : (xdS s).val = 19 + s.val := by revert s; decide +kernel
theorem wdS_val (s : Fin 4) : (wdS s).val = 23 + s.val := by revert s; decide +kernel
theorem sendS_val (k : Fin 8) : (sendS k).val = 3 + k.val := by revert k; decide +kernel
theorem recvS_val (k : Fin 8) : (recvS k).val = 11 + k.val := by revert k; decide +kernel

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- The mask a semaphore is the arrival semaphore of, if it is one. -/
def rmask (sm : SemLoc sig) : Option (Fin 8) := (List.finRange 8).find? fun k => sm = .dma (recvS k)
/-- The mask a semaphore is the send semaphore of, if it is one. -/
def smask (sm : SemLoc sig) : Option (Fin 8) := (List.finRange 8).find? fun k => sm = .dma (sendS k)

theorem rmask_recv (k : Fin 8) : rmask (.dma (recvS k)) = some k := by revert k; decide +kernel
theorem rmask_send (k : Fin 8) : rmask (.dma (sendS k)) = none := by revert k; decide +kernel
theorem rmask_xd (s : Fin 4) : rmask (.dma (xdS s)) = none := by revert s; decide +kernel
theorem rmask_wd (s : Fin 4) : rmask (.dma (wdS s)) = none := by revert s; decide +kernel
theorem smask_send (k : Fin 8) : smask (.dma (sendS k)) = some k := by revert k; decide +kernel

/-! ## The pieces of the buffers -/

/-- Rows `512 b … 512 b + 511` of a 4096-row array of 512 columns, -/
def rows (b : Dev nD) : Finset S4096x512.Idx := Finset.univ.filter fun i => (i 0 : Nat) / 512 = b.val
/-- of 2048 columns; -/
def wrows (b : Dev nD) : Finset S4096x2048.Idx := Finset.univ.filter fun i => (i 0 : Nat) / 512 = b.val
/-- the slot `s` of a stack of four, -/
def xslot (s : Fin 4) : Finset S4x512x512.Idx := Finset.univ.filter fun i => (i 0 : Nat) = s.val
def wslot (s : Fin 4) : Finset S4x512x2048.Idx := Finset.univ.filter fun i => (i 0 : Nat) = s.val
/-- and of the stack of eight. -/
def gslot (s : Dev nD) : Finset S8x512x512.Idx := Finset.univ.filter fun i => (i 0 : Nat) = s.val

theorem set_rows {b : Dev nD} {off} {inb} (h : off = ![512 * b.val, 0]) :
    (Rect.unit (s := S4096x512) off S512x512.size inb).set = rows b := by
  subst h; ext i
  have h1 : (i 1 : Nat) < 512 := (i 1).isLt
  rw [Rect.mem_set_unit, rows, Finset.mem_filter]
  simp [Fin.forall_fin_two]
  omega
theorem set_wrows {b : Dev nD} {off} {inb} (h : off = ![512 * b.val, 0]) :
    (Rect.unit (s := S4096x2048) off S512x2048.size inb).set = wrows b := by
  subst h; ext i
  have h1 : (i 1 : Nat) < 2048 := (i 1).isLt
  rw [Rect.mem_set_unit, wrows, Finset.mem_filter]
  simp [Fin.forall_fin_two]
  omega
theorem set_xslot {s : Fin 4} {off} {inb} (h : off = ![s.val, 0, 0]) :
    (Rect.unit (s := S4x512x512) off S1x512x512.size inb).set = xslot s := by
  subst h; ext i
  have h1 : (i 1 : Nat) < 512 := (i 1).isLt
  have h2 : (i 2 : Nat) < 512 := (i 2).isLt
  rw [Rect.mem_set_unit, xslot, Finset.mem_filter]
  simp [Fin.forall_fin_succ]
  omega
theorem set_wslot {s : Fin 4} {off} {inb} (h : off = ![s.val, 0, 0]) :
    (Rect.unit (s := S4x512x2048) off S1x512x2048.size inb).set = wslot s := by
  subst h; ext i
  have h1 : (i 1 : Nat) < 512 := (i 1).isLt
  have h2 : (i 2 : Nat) < 2048 := (i 2).isLt
  rw [Rect.mem_set_unit, wslot, Finset.mem_filter]
  simp [Fin.forall_fin_succ]
  omega
theorem set_gslot {s : Dev nD} {off} {inb} (h : off = ![s.val, 0, 0]) :
    (Rect.unit (s := S8x512x512) off S1x512x512.size inb).set = gslot s := by
  subst h; ext i
  have h1 : (i 1 : Nat) < 512 := (i 1).isLt
  have h2 : (i 2 : Nat) < 512 := (i 2).isLt
  rw [Rect.mem_set_unit, gslot, Finset.mem_filter]
  simp [Fin.forall_fin_succ]
  omega
/-- Half a slot of the `w` stack lies in the slot. -/
theorem set_whalf {s : Fin 4} {off} {inb} {j : Nat} (h : off = ![s.val, 0, j]) :
    (Rect.unit (s := S4x512x2048) off S1x512x1024.size inb).set ⊆ wslot s := by
  subst h; intro i hi
  rw [Rect.mem_set_unit] at hi
  have h0 := hi 0
  rw [wslot, Finset.mem_filter]
  simp at h0
  exact ⟨Finset.mem_univ _, by omega⟩

/-! ## The contents -/

/-- Device `c`'s arguments at launch. -/
def xArg (c : Dev nD) : S4096x512.Idx → F .f32 := m ((c : Thread nD τ).loc main_arg0)
def wArg (c : Dev nD) : S4096x2048.Idx → F .f32 := m ((c : Thread nD τ).loc main_arg1)

/-- Row `512 b + i`, column `j` of a 4096-row array of 512 columns. -/
def at512 (b : Dev nD) (i : Fin 512) (j : Fin 512) : S4096x512.Idx :=
  ValueIdx.ix2 (n0 := 4096) (n1 := 512) ⟨512 * b.val + i.val, by have := b.isLt; have := i.isLt; simp only [nD] at *; omega⟩ j
/-- The same for 2048 columns. -/
def at2048 (b : Dev nD) (i : Fin 512) (j : Fin 2048) : S4096x2048.Idx :=
  ValueIdx.ix2 (n0 := 4096) (n1 := 2048) ⟨512 * b.val + i.val, by have := b.isLt; have := i.isLt; simp only [nD] at *; omega⟩ j

/-- A slot of the `x` stack holding block `b` of device `c`'s `x`. -/
def xBlk (c b : Dev nD) : S4x512x512.Idx → F .f32 := fun i => xArg m c (at512 b (i 1) (i 2))
/-- Device `c`'s `x` cast to eight bits. -/
def xq (c : Dev nD) : S4096x512.Idx → F .fp8e5m2 := truncf .fp8e5m2 (xArg m c : FVec F S4096x512 .f32) bitsLt_fp8e5m2_f32
/-- The stack of device `c` after the exchange: its slot `s` holds the rows of device `s`'s cast `x` that `c` needs. -/
def gat (c : Dev nD) : S8x512x512.Idx → F .fp8e5m2 := fun i => xq m (i 0) (at512 c (i 1) (i 2))
/-- A slot of the `w` stack holding block `b` of device `c`'s `w`. -/
def wBlk (c b : Dev nD) : S4x512x2048.Idx → F .f32 := fun i => wArg m c (at2048 b (i 1) (i 2))

/-! ## The pieces as assertions -/

def xPts (c b : Dev nD) : sProp 𝕄 := ((c : Thread nD τ).loc main_arg0) ↦[rows b]{fullShare} (xArg m c)
def wPts (c b : Dev nD) : sProp 𝕄 := ((c : Thread nD τ).loc main_arg1) ↦[wrows b]{fullShare} (wArg m c)
def xbPts (c : Dev nD) (s : Fin 4) (f : S4x512x512.Idx → F .f32) : sProp 𝕄 := ((c : Thread nD τ).loc cc0_scratch0) ↦[xslot s]{fullShare} f
def xqPts (c b : Dev nD) (f : S4096x512.Idx → F .fp8e5m2) : sProp 𝕄 := ((c : Thread nD τ).loc cc0_scratch1) ↦[rows b]{fullShare} f
def gPts (c s : Dev nD) (f : S8x512x512.Idx → F .fp8e5m2) : sProp 𝕄 := ((c : Thread nD τ).loc cc0_scratch2) ↦[gslot s]{fullShare} f
def wbPts (c : Dev nD) (s : Fin 4) (f : S4x512x2048.Idx → F .f32) : sProp 𝕄 := ((c : Thread nD τ).loc cc0_scratch3) ↦[wslot s]{fullShare} f

omit [FloatOps F] in
instance xqPts_storable (c b : Dev nD) (f) : BI.Storable (upEmb : UEmb _ 𝕄) (xqPts (F := F) c b f) := by unfold xqPts; infer_instance
omit [FloatOps F] in
instance gPts_storable (c s : Dev nD) (f) : BI.Storable (upEmb : UEmb _ 𝕄) (gPts (F := F) c s f) := by unfold gPts; infer_instance

/-! ## The schedule -/

/-- The masks in the order of the program. -/
abbrev masks : List (Fin 8) := [1, 3, 2, 4, 5, 7, 6]

/-- The landing slot a transfer writes, as the program names it on the receiving device. -/
abbrev gM (s : Dev nD) : Memref sig .tc .vmem S512x512 .fp8e5m2 :=
  ((Memref.whole cc0_scratch2).slice (Rect.unit (s := S8x512x512) (k0_off3 s) S1x512x512.size (k0_off3_inb s)) (fun _ => rfl)).squeeze
    S512x512 squeezes_S1x512x512_S512x512

/-- What one transfer of a block between devices credits. -/
abbrev N : ℕ := (gM 0).view.dmaCredit
theorem N_pos : 0 < N := View.dmaCredit_pos _ (by decide)

/-- What comes with the partner's unit of the barrier: the partner's landing slot for this device. -/
def barPay (c : Dev nD) (k : Fin 8) : sProp 𝕄 := iprop(∃ f, gPts (px k c) c f)
/-- What comes with an arrival: the slot of the partner, holding what it was sent. -/
def recvPay (c : Dev nD) (k : Fin 8) : sProp 𝕄 := gPts c (px k c) (gat m c)
/-- What comes back with a send: the rows sent. -/
def sendPay (c : Dev nD) (k : Fin 8) : sProp 𝕄 := xqPts c (px k c) (xq m c)

/-- One round. A barrier cell has one duty of one unit per partner, named by the mask; an arrival or send cell of a mask other than 0 has
    one duty of a block's credit. -/
def ringRd : Rounds.Schedule (GSem nD τ sig) (Fin 8) 𝕄 where
  duties g r := if r = 0 ∧ g.1.2 = .tc then
      (if g.2 = .reg barS then Finset.univ.erase 0 else
        match rmask g.2 with
        | some k => if k = 0 then ∅ else {0}
        | none => match smask g.2 with
          | some k => if k = 0 then ∅ else {0}
          | none => ∅)
    else ∅
  unitless _ := False
  amount g _ _ := if g.2 = .reg barS then 1 else N
  payload g _ d :=
    if g.2 = .reg barS then barPay g.1.1 d
    else match rmask g.2 with
      | some k => recvPay m g.1.1 k
      | none => match smask g.2 with
        | some k => sendPay m g.1.1 k
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 8) :
    BI.Storable (upEmb : UEmb _ 𝕄) ((ringRd (F := F) m).payload g r d) := by
  show BI.Storable upEmb (if g.2 = .reg barS then barPay g.1.1 d
    else match rmask g.2 with
      | some k => recvPay m g.1.1 k
      | none => match smask g.2 with
        | some k => sendPay m g.1.1 k
        | none => iprop(emp))
  unfold barPay recvPay sendPay
  (repeat' split) <;> infer_instance

section Sched
variable (c : Dev nD) (k : Fin 8)

theorem send_ne_bar : (SemLoc.dma (sendS k) : SemLoc sig) ≠ .reg barS := fun h => by cases h
theorem recv_ne_bar : (SemLoc.dma (recvS k) : SemLoc sig) ≠ .reg barS := fun h => by cases h

theorem duties_bar : (ringRd (F := F) m).duties (barCell c) 0 = Finset.univ.erase 0 := by
  dsimp only [ringRd]; rw [if_pos ⟨rfl, rfl⟩, if_pos rfl]
theorem duties_send (hk : k ≠ 0) : (ringRd (F := F) m).duties (sendCell c k) 0 = {0} := by
  dsimp only [ringRd]; rw [if_pos ⟨rfl, rfl⟩, if_neg (send_ne_bar k), rmask_send, smask_send]; exact if_neg hk
theorem duties_recv (hk : k ≠ 0) : (ringRd (F := F) m).duties (recvCell c k) 0 = {0} := by
  dsimp only [ringRd]; rw [if_pos ⟨rfl, rfl⟩, if_neg (recv_ne_bar k), rmask_recv]; exact if_neg hk
theorem duties_later (g : GSem nD τ sig) : ∀ r, 1 ≤ r → (ringRd (F := F) m).duties g r = ∅ :=
  fun r hr => by dsimp only [ringRd]; rw [if_neg fun h => by omega]
/-- The cells of the mask 0 have no duty at all. -/
theorem duties_send0 (r : ℕ) : (ringRd (F := F) m).duties (sendCell c 0) r = ∅ := by
  dsimp only [ringRd]; rw [if_neg (send_ne_bar 0), rmask_send, smask_send]; exact ite_self _
theorem duties_recv0 (r : ℕ) : (ringRd (F := F) m).duties (recvCell c 0) r = ∅ := by
  dsimp only [ringRd]; rw [if_neg (recv_ne_bar 0), rmask_recv]; exact ite_self _

theorem amount_bar (d : Fin 8) : (ringRd (F := F) m).amount (barCell c) 0 d = 1 := by dsimp only [ringRd]; exact if_pos rfl
theorem amount_send (d : Fin 8) : (ringRd (F := F) m).amount (sendCell c k) 0 d = N := by dsimp only [ringRd]; exact if_neg (send_ne_bar k)
theorem amount_recv (d : Fin 8) : (ringRd (F := F) m).amount (recvCell c k) 0 d = N := by dsimp only [ringRd]; exact if_neg (recv_ne_bar k)

theorem expect_bar : (ringRd (F := F) m).expect (barCell c) 0 = 7 := by
  unfold Schedule.expect Schedule.amountOf
  rw [duties_bar, Finset.sum_congr rfl fun d _ => amount_bar m c d, Finset.sum_const, smul_eq_mul]; decide
theorem expect_send (hk : k ≠ 0) : (ringRd (F := F) m).expect (sendCell c k) 0 = N := by
  unfold Schedule.expect Schedule.amountOf; rw [duties_send m c k hk, Finset.sum_singleton, amount_send]
theorem expect_recv (hk : k ≠ 0) : (ringRd (F := F) m).expect (recvCell c k) 0 = N := by
  unfold Schedule.expect Schedule.amountOf; rw [duties_recv m c k hk, Finset.sum_singleton, amount_recv]

theorem payload_bar (d : Fin 8) : (ringRd (F := F) m).payload (barCell c) 0 d = barPay c d := by dsimp only [ringRd]; rw [if_pos rfl]
theorem payload_send (d : Fin 8) : (ringRd (F := F) m).payload (sendCell c k) 0 d = sendPay m c k := by
  dsimp only [ringRd]; rw [if_neg (send_ne_bar k), rmask_send, smask_send]
theorem payload_recv (d : Fin 8) : (ringRd (F := F) m).payload (recvCell c k) 0 d = recvPay m c k := by
  dsimp only [ringRd]; rw [if_neg (recv_ne_bar k), rmask_recv]

/-- All that a barrier round hands over: the seven partners' slots, in the order of the program. -/
theorem rest_bar : bigSep ((ringRd (F := F) m).duties (barCell c) 0 \ ∅) (fun d => (ringRd (F := F) m).payload (barCell c) 0 d)
    = bigSepL masks (fun d => barPay (F := F) c d) := by
  rw [Finset.sdiff_empty, duties_bar, bigSep_eq_bigSepL_of_eq masks (by decide) (by decide)]
  simp only [payload_bar]
theorem rest_send (hk : k ≠ 0) : bigSep ((ringRd (F := F) m).duties (sendCell c k) 0 \ ∅) (fun d => (ringRd (F := F) m).payload (sendCell c k) 0 d)
    = sendPay m c k := by
  rw [Finset.sdiff_empty, duties_send m c k hk, bigSep_singleton, payload_send]
theorem rest_recv (hk : k ≠ 0) : bigSep ((ringRd (F := F) m).duties (recvCell c k) 0 \ ∅) (fun d => (ringRd (F := F) m).payload (recvCell c k) 0 d)
    = recvPay m c k := by
  rw [Finset.sdiff_empty, duties_recv m c k hk, bigSep_singleton, payload_recv]

end Sched

/-! ## What a device owes, and the levels -/

/-- What device `c` owes of the arrivals under the masks `l`, -/
def owesR (c : Dev nD) : List (Fin 8) → CellTallies nD τ sig Unit
  | [] => 0
  | k :: l => owesR c l + tallyAt (recvCell (px k c) k) () N
/-- and, before them, of the barrier units under the masks `l`. -/
def owesB (c : Dev nD) : List (Fin 8) → CellTallies nD τ sig Unit
  | [] => owesR c masks
  | k :: l => owesB c l + tallyAt (barCell (px k c)) () 1
/-- At launch. -/
def O₀ (c : Dev nD) : CellTallies nD τ sig Unit := owesB c masks

def L (g : GSem nD τ sig) : Finset Unit := if g.1.2 = .tc then {()} else ∅
/-- Barrier cells at 1, arrival cells at 2, everything else at 0. -/
def lv (g : GSem nD τ sig) (_ : Unit) : ℕ := if g.2 = .reg barS then 1 else if (rmask g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 8) : lv (recvCell c k) () = 2 := by
  unfold lv; rw [if_neg (recv_ne_bar k), rmask_recv]; rfl

theorem owesR_pos {c : Dev nD} {g : GSem nD τ sig} {u : Unit} : ∀ {l}, 0 < owesR c l g u → ∃ k, g = recvCell (px k c) k
  | [], h => absurd h (Nat.lt_irrefl 0)
  | k :: l, h => by
    unfold owesR at h
    rw [Pi.add_apply, Finsupp.add_apply, tallyAt_apply] at h
    by_cases hg : g = recvCell (px k c) k ∧ u = ()
    · exact ⟨k, hg.1⟩
    · rw [if_neg hg, Nat.add_zero] at h; exact owesR_pos h
theorem owesB_pos {c : Dev nD} {g : GSem nD τ sig} {u : Unit} :
    ∀ {l}, 0 < owesB c l g u → (∃ k, g = recvCell (px k c) k) ∨ ∃ k, g = barCell (px k c)
  | [], h => .inl (owesR_pos h)
  | k :: l, h => by
    unfold owesB at h
    rw [Pi.add_apply, Finsupp.add_apply, tallyAt_apply] at h
    by_cases hg : g = barCell (px k c) ∧ u = ()
    · exact .inr ⟨k, hg.1⟩
    · rw [if_neg hg, Nat.add_zero] at h; exact owesB_pos h

omit [FloatOps F] in
/-- A cell at level 0 may be waited on while arrivals are owed, -/
theorem mayWait_low (c : Dev nD) (sm : SemLoc sig) (h0 : lv ((c : Thread nD τ), sm) () = 0) (l : List (Fin 8)) :
    (levAts L lv : sProp 𝕄) ⊢ MayWait (c : Thread nD τ) sm () (owesR c l) :=
  MayOwe.of_cut (L := L) (lev := lv) 0 (fun p hp => by rw [Finset.mem_singleton.mp hp, L_tc]; exact Finset.mem_singleton_self _)
    (fun g u hg => by obtain ⟨k, rfl⟩ := owesR_pos hg; exact Finset.mem_singleton_self _)
    (fun p hp => by rw [Finset.mem_singleton.mp hp]; exact h0.le)
    (fun g u hg => by obtain ⟨k, rfl⟩ := owesR_pos hg; rw [lv_recv]; decide)
omit [FloatOps F] in
/-- and so may the barrier. -/
theorem mayWait_bar (c : Dev nD) (l : List (Fin 8)) :
    (levAts L lv : sProp 𝕄) ⊢ MayWait (c : Thread nD τ) (.reg barS) () (owesR c l) :=
  MayOwe.of_cut (L := L) (lev := lv) 1 (fun p hp => by rw [Finset.mem_singleton.mp hp, L_tc]; exact Finset.mem_singleton_self _)
    (fun g u hg => by obtain ⟨k, rfl⟩ := owesR_pos hg; exact Finset.mem_singleton_self _)
    (fun p hp => by rw [Finset.mem_singleton.mp hp]; exact (lv_bar c).le)
    (fun g u hg => by obtain ⟨k, rfl⟩ := owesR_pos hg; rw [lv_recv]; decide)
omit [FloatOps F] in
/-- A cell at level 0 may be waited on before anything was paid. -/
theorem mayWait_stage (c : Dev nD) (sm : SemLoc sig) (h0 : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases owesB_pos hg with ⟨k, rfl⟩ | ⟨k, rfl⟩ <;> exact Finset.mem_singleton_self _)
      (fun p hp => by rw [Finset.mem_singleton.mp hp]; exact h0.le)
      (fun g u hg => by
        rcases owesB_pos hg with ⟨k, rfl⟩ | ⟨k, rfl⟩
        · rw [lv_recv]; decide
        · rw [lv_bar]; decide)
  · rw [MayWait_zero]; iintro -; iempintro

end Cert.KernelIdeal.Exchange
-- ==== Proof.KernelIdeal.Contents.lean ====
/-
What the reads and writes of one piece of a buffer see and leave: the values a load of a slot returns, and the contents a copy or a
store leaves on the piece it writes.
-/
module

public import proofs.«01_k».proof.Proof.KernelIdeal.Setup

@[expose] public section

noncomputable section

namespace Cert.KernelIdeal.Exchange

open Cert.KernelIdeal Cert.KernelIdeal.Gen

open Idealize.ShloMosaic
open Idealize.ShloMosaic.TcCoe

variable {F : FTy → Type} [FloatOps F]
variable (m : (ℓ : Loc nD τ sig) → Buf (Elt F) ℓ)

/-! ## Where an element of a piece lies in the buffer -/

/-- Element `(a, b)` of slot `s` of the `x` stack. -/
theorem emb_xslot {s : Fin 4} {off inb hs hq} (h : off = ![s.val, 0, 0]) (a b : Fin 512) :
    (((Memref.whole cc0_scratch0).slice (Rect.unit (s := S4x512x512) off S1x512x512.size inb) hs).squeeze S512x512 hq).view.emb (ValueIdx.ix2 a b)
      = (ValueIdx.ix3 (n0 := 4) (n1 := 512) (n2 := 512) s a b : S4x512x512.Idx) := by
  subst h
  show (Rect.unit (s := S4x512x512) _ S1x512x512.size inb).emb (Shape.reshapeEquiv _ (ValueIdx.ix2 a b)) = _
  rw [ValueIdx.reshapeEquiv_ix2_1ab]
  funext x; apply Fin.ext; rw [Rect.emb_apply]
  fin_cases x <;> simp [ValueIdx.ix3]
/-- Element `(a, b)` of slot `s` of the `w` stack. -/
theorem emb_wslot {s : Fin 4} {off inb hs hq} (h : off = ![s.val, 0, 0]) (a : Fin 512) (b : Fin 2048) :
    (((Memref.whole cc0_scratch3).slice (Rect.unit (s := S4x512x2048) off S1x512x2048.size inb) hs).squeeze S512x2048 hq).view.emb (ValueIdx.ix2 a b)
      = (ValueIdx.ix3 (n0 := 4) (n1 := 512) (n2 := 2048) s a b : S4x512x2048.Idx) := by
  subst h
  show (Rect.unit (s := S4x512x2048) _ S1x512x2048.size inb).emb (Shape.reshapeEquiv _ (ValueIdx.ix2 a b)) = _
  rw [ValueIdx.reshapeEquiv_ix2_1ab]
  funext x; apply Fin.ext; rw [Rect.emb_apply]
  fin_cases x <;> simp [ValueIdx.ix3]
/-- Element `(a, b)` of slot `s` of the landing stack. -/
theorem emb_gslot {s : Dev nD} {off inb hs hq} (h : off = ![s.val, 0, 0]) (a b : Fin 512) :
    (((Memref.whole cc0_scratch2).slice (Rect.unit (s := S8x512x512) off S1x512x512.size inb) hs).squeeze S512x512 hq).view.emb (ValueIdx.ix2 a b)
      = (ValueIdx.ix3 (n0 := 8) (n1 := 512) (n2 := 512) s a b : S8x512x512.Idx) := by
  subst h
  show (Rect.unit (s := S8x512x512) _ S1x512x512.size inb).emb (Shape.reshapeEquiv _ (ValueIdx.ix2 a b)) = _
  rw [ValueIdx.reshapeEquiv_ix2_1ab]
  funext x; apply Fin.ext; rw [Rect.emb_apply]
  fin_cases x <;> simp [ValueIdx.ix3]
/-- Element `(a, b)` of block `b'` of rows. -/
theorem emb_rows {b' : Dev nD} {off inb} (h : off = ![512 * b'.val, 0]) (a b : Fin 512) :
    (Rect.unit (s := S4096x512) off S512x512.size inb).emb (ValueIdx.ix2 a b) = at512 b' a b := by
  subst h
  funext x; apply Fin.ext; rw [Rect.emb_apply]
  fin_cases x <;> simp [ValueIdx.ix2, at512]
theorem emb_wrows {b' : Dev nD} {off inb} (h : off = ![512 * b'.val, 0]) (a : Fin 512) (b : Fin 2048) :
    (Rect.unit (s := S4096x2048) off S512x2048.size inb).emb (ValueIdx.ix2 a b) = at2048 b' a b := by
  subst h
  funext x; apply Fin.ext; rw [Rect.emb_apply]
  fin_cases x <;> simp [ValueIdx.ix2, at2048]

/-! ## The sets of the views -/

theorem vset_xslot {s : Fin 4} {off inb hs hq} (h : off = ![s.val, 0, 0]) :
    (((Memref.whole cc0_scratch0).slice (Rect.unit (s := S4x512x512) off S1x512x512.size inb) hs).squeeze S512x512 hq).view.set = xslot s := by
  exact (View.set_reshape _ _).trans ((View.set_slice_whole _ _).trans (set_xslot h))
theorem vset_wslot {s : Fin 4} {off inb hs hq} (h : off = ![s.val, 0, 0]) :
    (((Memref.whole cc0_scratch3).slice (Rect.unit (s := S4x512x2048) off S1x512x2048.size inb) hs).squeeze S512x2048 hq).view.set = wslot s := by
  exact (View.set_reshape _ _).trans ((View.set_slice_whole _ _).trans (set_wslot h))
theorem vset_gslot {s : Dev nD} {off inb hs hq} (h : off = ![s.val, 0, 0]) :
    (((Memref.whole cc0_scratch2).slice (Rect.unit (s := S8x512x512) off S1x512x512.size inb) hs).squeeze S512x512 hq).view.set = gslot s := by
  exact (View.set_reshape _ _).trans ((View.set_slice_whole _ _).trans (set_gslot h))
theorem vset_x {b : Dev nD} {off inb hs} (h : off = ![512 * b.val, 0]) :
    ((Memref.whole main_arg0).slice (Rect.unit (s := S4096x512) off S512x512.size inb) hs).view.set = rows b :=
  (View.set_slice_whole _ _).trans (set_rows h)
theorem vset_xq {b : Dev nD} {off inb hs} (h : off = ![512 * b.val, 0]) :
    ((Memref.whole cc0_scratch1).slice (Rect.unit (s := S4096x512) off S512x512.size inb) hs).view.set = rows b :=
  (View.set_slice_whole _ _).trans (set_rows h)
theorem vset_w {b : Dev nD} {off inb hs} (h : off = ![512 * b.val, 0]) :
    ((Memref.whole main_arg1).slice (Rect.unit (s := S4096x2048) off S512x2048.size inb) hs).view.set = wrows b :=
  (View.set_slice_whole _ _).trans (set_wrows h)

/-! ## The copies -/

/-- An element of a slot, by its coordinates. -/
theorem mem_xslot {s : Fin 4} {i : S4x512x512.Idx} (hi : i ∈ xslot s) : i = ValueIdx.ix3 (n0 := 4) (n1 := 512) (n2 := 512) s (i 1) (i 2) := by
  have h0 : (i 0 : Nat) = s.val := (Finset.mem_filter.mp hi).2
  funext x; apply Fin.ext; fin_cases x <;> simp [ValueIdx.ix3, h0]
theorem mem_wslot {s : Fin 4} {i : S4x512x2048.Idx} (hi : i ∈ wslot s) : i = ValueIdx.ix3 (n0 := 4) (n1 := 512) (n2 := 2048) s (i 1) (i 2) := by
  have h0 : (i 0 : Nat) = s.val := (Finset.mem_filter.mp hi).2
  funext x; apply Fin.ext; fin_cases x <;> simp [ValueIdx.ix3, h0]
theorem mem_gslot {s : Dev nD} {i : S8x512x512.Idx} (hi : i ∈ gslot s) : i = ValueIdx.ix3 (n0 := 8) (n1 := 512) (n2 := 512) s (i 1) (i 2) := by
  have h0 : (i 0 : Nat) = s.val := (Finset.mem_filter.mp hi).2
  funext x; apply Fin.ext; fin_cases x <;> simp [ValueIdx.ix3, h0]
theorem mem_rows {b : Dev nD} {i : S4096x512.Idx} (hi : i ∈ rows b) : ∃ a : Fin 512, i = at512 b a (i 1) := by
  have h0 : (i 0 : Nat) / 512 = b.val := (Finset.mem_filter.mp hi).2
  refine ⟨⟨(i 0 : Nat) % 512, Nat.mod_lt _ (by decide)⟩, ?_⟩
  funext x; apply Fin.ext; fin_cases x <;> simp [ValueIdx.ix2, at512]
  omega

/-- A copy of block `b` of `x` into slot `s` leaves the block there. -/
theorem copy_x {c : Dev nD} {b : Dev nD} {s : Fin 4} {off off' inb inb' hs hs' hq} (h : off = ![512 * b.val, 0]) (h' : off' = ![s.val, 0, 0])
    (fd : S4x512x512.Idx → F .f32) (i : S4x512x512.Idx) (hi : i ∈ xslot s) :
    (((Memref.whole cc0_scratch0).slice (Rect.unit (s := S4x512x512) off' S1x512x512.size inb') hs').squeeze S512x512 hq).view.write (Elt F) fd
      (((Memref.whole main_arg0).slice (Rect.unit (s := S4096x512) off S512x512.size inb) hs).view.read (Elt F) (xArg m c)) Finset.univ i
      = xBlk m c b i := by
  rw [mem_xslot hi]
  refine (congrArg _ (emb_xslot (hs := hs') (hq := hq) (inb := inb') h' (i 1) (i 2)).symm).trans ((View.write_emb_of_mem _ _ (Finset.mem_univ _)).trans ?_)
  exact congrArg (xArg m c) (emb_rows (inb := inb) h _ _)
/-- A copy of block `b` of `w` into slot `s` leaves the block there. -/
theorem copy_w {c : Dev nD} {b : Dev nD} {s : Fin 4} {off off' inb inb' hs hs' hq} (h : off = ![512 * b.val, 0]) (h' : off' = ![s.val, 0, 0])
    (fd : S4x512x2048.Idx → F .f32) (i : S4x512x2048.Idx) (hi : i ∈ wslot s) :
    (((Memref.whole cc0_scratch3).slice (Rect.unit (s := S4x512x2048) off' S1x512x2048.size inb') hs').squeeze S512x2048 hq).view.write (Elt F) fd
      (((Memref.whole main_arg1).slice (Rect.unit (s := S4096x2048) off S512x2048.size inb) hs).view.read (Elt F) (wArg m c)) Finset.univ i
      = wBlk m c b i := by
  rw [mem_wslot hi]
  refine (congrArg _ (emb_wslot (hs := hs') (hq := hq) (inb := inb') h' (i 1) (i 2)).symm).trans ((View.write_emb_of_mem _ _ (Finset.mem_univ _)).trans ?_)
  exact congrArg (wArg m c) (emb_wrows (inb := inb) h _ _)
/-- A transfer of device `c`'s cast rows of block `d` into slot `c` of device `d`'s landing stack leaves there what `gat` says. -/
theorem copy_g {c d : Dev nD} {off off' inb inb' hs hs' hq} (h : off = ![512 * d.val, 0]) (h' : off' = ![c.val, 0, 0])
    (fd : S8x512x512.Idx → F .fp8e5m2) (i : S8x512x512.Idx) (hi : i ∈ gslot c) :
    (((Memref.whole cc0_scratch2).slice (Rect.unit (s := S8x512x512) off' S1x512x512.size inb') hs').squeeze S512x512 hq).view.write (Elt F) fd
      (((Memref.whole cc0_scratch1).slice (Rect.unit (s := S4096x512) off S512x512.size inb) hs).view.read (Elt F) (xq m c)) Finset.univ i
      = gat m d i := by
  rw [mem_gslot hi]
  refine (congrArg _ (emb_gslot (hs := hs') (hq := hq) (inb := inb') h' (i 1) (i 2)).symm).trans ((View.write_emb_of_mem _ _ (Finset.mem_univ _)).trans ?_)
  exact congrArg (xq m c) (emb_rows (inb := inb) h _ _)

/-! ## The loads -/

/-- A load of slot `s` of the `x` stack holding a block. -/
def xVec (c b : Dev nD) : Vec F S1x512x512 .f32 := fun y => xArg m c (at512 b (y 1) (y 2))
/-- A load of slot `s` of device `c`'s landing stack. -/
def gVec (c s : Dev nD) : Vec F S1x512x512 .fp8e5m2 := fun y => xq m s (at512 c (y 1) (y 2))
/-- A load of the left half of a slot of the `w` stack, -/
def wVecL (c b : Dev nD) : Vec F S1x512x1024 .f32 := fun y => wArg m c (at2048 b (y 1) ⟨(y 2).val, by have : (y 2).val < 1024 := (y 2).isLt; omega⟩)
/-- and of the right half. -/
def wVecR (c b : Dev nD) : Vec F S1x512x1024 .f32 := fun y => wArg m c (at2048 b (y 1) ⟨1024 + (y 2).val, by have : (y 2).val < 1024 := (y 2).isLt; omega⟩)

theorem load_x {c b : Dev nD} {s : Fin 4} {off inb} (h : off = ![s.val, 0, 0]) :
    (Memref.whole cc0_scratch0).view.readAt (Elt F) (Rect.unit (s := S4x512x512) off S1x512x512.size inb).toLoadRect (xBlk m c b) = xVec m c b := by
  subst h; funext y
  show xBlk m c b ((Rect.unit (s := S4x512x512) _ S1x512x512.size inb).emb y) = _
  exact congrArg (xArg m c) (congrArg₂ (at512 b) (Fin.ext ((Rect.emb_apply _ y 1).trans (by simp))) (Fin.ext ((Rect.emb_apply _ y 2).trans (by simp))))
theorem load_g {c s : Dev nD} {off inb} (h : off = ![s.val, 0, 0]) :
    (Memref.whole cc0_scratch2).view.readAt (Elt F) (Rect.unit (s := S8x512x512) off S1x512x512.size inb).toLoadRect (gat m c) = gVec m c s := by
  subst h; funext y
  show gat m c ((Rect.unit (s := S8x512x512) _ S1x512x512.size inb).emb y) = _
  have h0 : (y 0 : Nat) = 0 := by have : (y 0 : Nat) < 1 := (y 0).isLt; omega
  show xq m ((Rect.unit (s := S8x512x512) _ S1x512x512.size inb).emb y 0) _ = xq m s _
  rw [show (Rect.unit (s := S8x512x512) _ S1x512x512.size inb).emb y 0 = s from Fin.ext ((Rect.emb_apply _ y 0).trans (by simp [h0]))]
  exact congrArg (xq m s) (congrArg₂ (at512 c) (Fin.ext ((Rect.emb_apply _ y 1).trans (by simp))) (Fin.ext ((Rect.emb_apply _ y 2).trans (by simp))))
theorem load_wL {c b : Dev nD} {s : Fin 4} {off inb} (h : off = ![s.val, 0, 0]) :
    (Memref.whole cc0_scratch3).view.readAt (Elt F) (Rect.unit (s := S4x512x2048) off S1x512x1024.size inb).toLoadRect (wBlk m c b) = wVecL m c b := by
  subst h; funext y
  show wBlk m c b ((Rect.unit (s := S4x512x2048) _ S1x512x1024.size inb).emb y) = _
  exact congrArg (wArg m c) (congrArg₂ (at2048 b) (Fin.ext ((Rect.emb_apply _ y 1).trans (by simp))) (Fin.ext ((Rect.emb_apply _ y 2).trans (by simp))))
theorem load_wR {c b : Dev nD} {s : Fin 4} {off inb} (h : off = ![s.val, 0, 1024]) :
    (Memref.whole cc0_scratch3).view.readAt (Elt F) (Rect.unit (s := S4x512x2048) off S1x512x1024.size inb).toLoadRect (wBlk m c b) = wVecR m c b := by
  subst h; funext y
  show wBlk m c b ((Rect.unit (s := S4x512x2048) _ S1x512x1024.size inb).emb y) = _
  exact congrArg (wArg m c) (congrArg₂ (at2048 b) (Fin.ext ((Rect.emb_apply _ y 1).trans (by simp))) (Fin.ext ((Rect.emb_apply _ y 2).trans (by simp))))

/-! ## The stores -/

/-- The cast of a loaded block is the block of the cast array. -/
theorem cast_apply (c b : Dev nD) (a j : Fin 512) : k0_pay1 (xVec m c b) (ValueIdx.ix2 a j) = xq m c (at512 b a j) := by
  unfold k0_pay1 xq
  show FloatOps.truncf _ _ _ = FloatOps.truncf _ _ _
  congr 1
  rw [show Shape.reshapeEquiv _ (ValueIdx.ix2 a j) = (ValueIdx.ix2 a j : S512x512.Idx) from Shape.reshapeEquiv_eq_of_rowMajor _ rfl]
  exact ValueIdx.shapeCast_1ab_ab_apply _ _ _ _

/-- The cast of a loaded block, stored on block `b` of the cast rows, leaves what `xq` says there. -/
theorem store_xq {c b : Dev nD} {off inb} (h : off = ![512 * b.val, 0]) (fd : S4096x512.Idx → F .fp8e5m2) (i : S4096x512.Idx) (hi : i ∈ rows b) :
    ((Memref.whole cc0_scratch1).access (Rect.unit (s := S4096x512) off S512x512.size inb) : View sig .tc _ _ _).write (Elt F) fd (k0_pay1 (xVec m c b)) Finset.univ i
      = xq m c i := by
  obtain ⟨a, ha⟩ := mem_rows hi
  rw [ha]
  refine (congrArg _ (emb_rows (inb := inb) h a (i 1)).symm).trans ((View.write_emb_of_mem _ _ (Finset.mem_univ _)).trans ?_)
  exact cast_apply m c b a (i 1)

/-- Element `y` of a slot of the landing stack. -/
theorem emb_gacc {s : Dev nD} {off inb} (h : off = ![s.val, 0, 0]) (a b : Fin 512) :
    (Rect.unit (s := S8x512x512) off S1x512x512.size inb).emb (ValueIdx.ix3 (0 : Fin 1) a b)
      = (ValueIdx.ix3 (n0 := 8) (n1 := 512) (n2 := 512) s a b : S8x512x512.Idx) := by
  subst h
  funext x; apply Fin.ext; rw [Rect.emb_apply]
  fin_cases x <;> simp [ValueIdx.ix3]

/-- Adding a unit axis, and casting a shape to itself, keep the elements. -/
theorem unit_axis (w : FVec F S512x512 .fp8e5m2) (h h' h'') (a b : Fin 512) :
    shapeCast S1x512x512 (shapeCast S1x512x512 w h) h' (ValueIdx.ix3 (0 : Fin 1) a b) = shapeCast S512x512 w h'' (ValueIdx.ix2 a b) := by
  have e1 : Shape.reshapeEquiv h' (ValueIdx.ix3 (0 : Fin 1) a b) = (ValueIdx.ix3 (0 : Fin 1) a b : S1x512x512.Idx) := Shape.reshapeEquiv_eq_of_rowMajor _ rfl
  have e2 : Shape.reshapeEquiv h'' (ValueIdx.ix2 a b) = (ValueIdx.ix2 a b : S512x512.Idx) := Shape.reshapeEquiv_eq_of_rowMajor _ rfl
  have l : shapeCast S1x512x512 (shapeCast S1x512x512 w h) h' (ValueIdx.ix3 (0 : Fin 1) a b) = w (ValueIdx.ix2 a b) :=
    (congrArg (shapeCast S1x512x512 w h) e1).trans (ValueIdx.shapeCast_ab_1ab_apply _ _ _ _ _)
  exact l.trans (congrArg w e2).symm

/-- The cast of a device's own block, as a slot. -/
theorem castg_apply (c : Dev nD) (a b : Fin 512) :
    k0_pay10 (k0_pay9 (xVec m c c)) (ValueIdx.ix3 (0 : Fin 1) a b) = xq m c (at512 c a b) := by
  rw [← cast_apply m c c]
  unfold k0_pay10 k0_pay9 k0_pay1
  exact unit_axis (truncf .fp8e5m2 (shapeCast S512x512 (xVec m c c) shapeCasts_S1x512x512_S512x512) bitsLt_fp8e5m2_f32)
    shapeCasts_S512x512_S1x512x512 shapeCasts_S1x512x512_S1x512x512 shapeCasts_S512x512_S512x512 a b

/-- A device's own block, cast and stored on its own slot of the landing stack, leaves what `gat` says there. -/
theorem store_g {c : Dev nD} {off inb} (h : off = ![c.val, 0, 0]) (fd : S8x512x512.Idx → F .fp8e5m2) (i : S8x512x512.Idx) (hi : i ∈ gslot c) :
    ((Memref.whole cc0_scratch2).access (Rect.unit (s := S8x512x512) off S1x512x512.size inb) : View sig .tc _ _ _).write (Elt F) fd (k0_pay10 (k0_pay9 (xVec m c c))) Finset.univ i
      = gat m c i := by
  rw [mem_gslot hi]
  refine (congrArg _ (emb_gacc (inb := inb) h (i 1) (i 2)).symm).trans ((View.write_emb_of_mem _ _ (Finset.mem_univ _)).trans ?_)
  exact castg_apply m c (i 1) (i 2)

end Cert.KernelIdeal.Exchange
-- ==== Proof.KernelIdeal.Steps.lean ====
/-
The single steps of the exchange, one theorem per kind of operation: what a device must hold for it and what it holds after it.
-/
module

public import proofs.«01_k».proof.Proof.KernelIdeal.Contents

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running `p` on device `c` gives `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O` (what it has waited for is of no interest). -/
def owing (c : Dev nD) (O : CellTallies nD τ sig Unit) : sProp 𝕄 := iprop(∃ W, owes (c : Thread nD τ) O W)

/-! ## What every device knows of the cells -/

/-- The cells of a device: the barrier's, and per mask the send cell (`false`) and the arrival cell (`true`). -/
abbrev CellIx : Type := Option (Bool × Fin 8)
abbrev csem : CellIx → SemLoc sig
  | none => .reg barS
  | some (false, k) => .dma (sendS k)
  | some (true, k) => .dma (recvS k)
abbrev kcell (p : Dev nD × CellIx) : GSem nD τ sig := ((p.1 : Thread nD τ), csem p.2)

/-- Every cell's invariant, under the names `K`, and that every cell is at its only round; and the levels. -/
def records (K : Dev nD × CellIx → ℕ) : sProp 𝕄 :=
  iprop(bigSep Finset.univ (fun p => iprop(cellInv ER (ringRd m) (K p) (kcell p) ∗ reached ER (kcell p) 0)) ∗ levAts L lv)

instance records_persistent (K : Dev nD × CellIx → ℕ) : BI.Persistent (records m K) := by unfold records; infer_instance

theorem records_cell (K : Dev nD × CellIx → ℕ) (p : Dev nD × CellIx) :
    records m K ⊢ iprop(cellInv ER (ringRd m) (K p) (kcell p) ∗ reached ER (kcell p) 0) := by
  unfold records
  iintro ⟨H, -⟩
  have h : bigSep Finset.univ (fun p => iprop(cellInv ER (ringRd m) (K p) (kcell p) ∗ reached ER (kcell p) 0))
      ⊢ iprop(cellInv ER (ringRd m) (K p) (kcell p) ∗ reached ER (kcell p) 0) := bigSep_elim (Finset.mem_univ p)
  iapply h $$ H
theorem records_lev (K : Dev nD × CellIx → ℕ) : records m K ⊢ levAts L lv := by
  unfold records; iintro ⟨-, H⟩; iexact H

section Steps

variable (K : Dev nD × CellIx → ℕ) (c : Dev nD) {α : Type} {Q : α → sProp (MT nD τ sig Unit (Elt F) ℕ UU ℕ)} {kk : PUnit.{1} → Prog (TpuEff nD τ sig (Elt F) Λ₀ .tc) α}

/-! ## The barrier -/

/-- One unit to the partner's barrier, with this device's landing slot for it. -/
theorem step_signal (k : Fin 8) (hk : k ≠ 0) (l : List (Fin 8)) {n : ℕ} (hn : 1 = n) :
    records m K ⊢ iprop(owing c (owesB c (k :: l)) -∗ dutyTok ER (barCell (px k c)) 0 k -∗ (∃ f, gPts c (px k c) f)
      -∗ (owing c (owesB c l) -∗ WP c (kk ⟨⟩) Q)
      -∗ WP c (.op (.semSignal (px k c : Thread nD τ) barS n) kk) Q) := by
  iintro #HR HO Ht Hg Hk
  unfold owing
  icases HO with ⟨%W, HO⟩
  ihave #HI := (records_cell m K (px k c, none)) $$ HR
  icases HI with ⟨#HI, #Hr⟩
  iapply (Rounds.wp_signal 𝒱₀ ER (ringRd m) (c : Thread nD τ) none (dst := (px k c : Thread nD τ)) (κ := K (px k c, none))
      (d := k) (by rw [duties_bar]; exact Finset.mem_erase.mpr ⟨hk, Finset.mem_univ _⟩) ((amount_bar m (px k c) k).trans hn) () (owesB c l) (by rw [← hn]))
    $$ [HO Ht Hg]
  · isplitr; · iexact HI
    isplitl [HO]; · iexact HO
    isplitl [Ht]; · iexact Ht
    isplitl [Hg]
    · rw [payload_bar]; unfold barPay; rw [px_px]; iexact Hg
    iexact Hr
  iintro HO
  iapply Hk
  iexists W; iexact HO

/-- The barrier: it returns when all seven partners have signalled, and hands over their landing slots for this device. -/
theorem step_barWait (l : List (Fin 8)) {n : ℕ} (hn : 7 = n) :
    records m K ⊢ iprop(owing c (owesR c l) -∗ cred (tallyAt (barCell c) () 7) -∗ atPos (ER (F := F)) (barCell c) 0 ∅ 0
      -∗ ((owing c (owesR c l) ∗ atPos (ER (F := F)) (barCell c) 1 ∅ 0 ∗ bigSepL masks (fun d => barPay (F := F) c d)) -∗ WP c (kk ⟨⟩) Q)
      -∗ WP c (.op (.semWait barS n) kk) Q) := by
  subst hn
  iintro #HR HO Hc Hat Hk
  unfold owing
  icases HO with ⟨%W, HO⟩
  ihave #HI := (records_cell m K (c, none)) $$ HR
  icases HI with ⟨#HI, #Hr⟩
  iapply (Rounds.wp_wait_rest_token 𝒱₀ ER (ringRd m) (c : Thread nD τ) none (κ := K (c, none))
      (wpE_semWait_eq 𝒱₀ (c : Thread nD τ) none Set.univ) (Set.mem_univ _) () (O := owesR c l) (W := W) (R := 0) (m := 0) (T := ∅)
      (by rw [expect_bar])) $$ [Hc HO Hat]
  · isplitr; · iexact HI
    isplitl [Hc]; · iexact Hc
    isplitl [HO]; · iexact HO
    isplitr; · iapply (mayWait_bar c l); iapply (records_lev m K) $$ HR
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## The local copies -/

theorem inb_x (s : Fin 4) : ∀ a, (![s.val, 0, 0] : Fin 3 → Nat) a + S1x512x512.size a ≤ S4x512x512.size a := by revert s; decide
theorem inb_w (s : Fin 4) : ∀ a, (![s.val, 0, 0] : Fin 3 → Nat) a + S1x512x2048.size a ≤ S4x512x2048.size a := by revert s; decide

/-- Slot `s` of the `x` stack, and of the `w` stack, as the program names them. -/
abbrev xM (s : Fin 4) : Memref sig .tc .vmem S512x512 .f32 :=
  ((Memref.whole cc0_scratch0).slice (Rect.unit (s := S4x512x512) ![s.val, 0, 0] S1x512x512.size (inb_x s)) (fun _ => rfl)).squeeze S512x512 squeezes_S1x512x512_S512x512
abbrev wM (s : Fin 4) : Memref sig .tc .vmem S512x2048 .f32 :=
  ((Memref.whole cc0_scratch3).slice (Rect.unit (s := S4x512x2048) ![s.val, 0, 0] S1x512x2048.size (inb_w s)) (fun _ => rfl)).squeeze S512x2048 squeezes_S1x512x2048_S512x2048

/-- A copy of block `b` of `x` into slot `s` is under way: at its wait it delivers the slot, filled, and the block. -/
def xFl (s : Fin 4) (b : Dev nD) : sProp 𝕄 :=
  Flight EC (c : Thread nD τ) (.dma (xdS s)) () (xM s).view.dmaCredit iprop(xbPts c s (xBlk m c b) ∗ xPts m c b)
/-- The same for `w`. -/
def wFl (s : Fin 4) (b : Dev nD) : sProp 𝕄 :=
  Flight EC (c : Thread nD τ) (.dma (wdS s)) () (wM s).view.dmaCredit iprop(wbPts c s (wBlk m c b) ∗ wPts m c b)

theorem step_xStart (b : Dev nD) (s : Fin 4) {off off' inb inb' hs hs' hq} (h : off = ![512 * b.val, 0]) (h' : off' = ![s.val, 0, 0])
    {sm : DmaSem sig} (hsm : sm = xdS s) {hsrc hdst hsem} :
    xPts m c b ⊢ iprop((∃ f, xbPts (F := F) c s f) -∗ semVal ((c : Thread nD τ), .dma (xdS s)) 0 -∗ (xFl m c s b -∗ WP c (kk ⟨⟩) Q)
      -∗ WP c (.op (.enqueueDma ((Memref.whole main_arg0).slice (Rect.unit (s := S4096x512) off S512x512.size inb) hs)
          (.here (((Memref.whole cc0_scratch0).slice (Rect.unit (s := S4x512x512) off' S1x512x512.size inb') hs').squeeze S512x512 hq))
          (.dma sm) hsrc hdst hsem) kk) Q) := by
  subst h'; subst hsm
  iintro Hx ⟨%f, Hb⟩ Hv Hk
  unfold xPts xbPts
  rw [← vset_x (hs := hs) (inb := inb) h]
  iapply (Transfers.wp_dmaLocal EC 𝒱₀ (c : Thread nD τ) none () (xM s).view.dmaCredit rfl (View.dmaCredit_pos _ (by decide))
    (vset_xslot (hs := hs') (hq := hq) (inb := inb') rfl).subset) $$ [Hx Hb Hv]
  · isplitl [Hx]; · iexact Hx
    isplitl [Hb]; · iexact Hb
    iexact Hv
  iintro HF
  iapply Hk
  unfold xFl
  iapply (Transfers.Flight_mono EC (c : Thread nD τ) ?_) $$ HF
  unfold xPts xbPts
  rw [← vset_x (hs := hs) (inb := inb) h]
  exact Entails.of_eq (congrArg (fun P => iprop(P ∗ _)) (pointsTo_congr fun i hi => copy_x m (inb := inb) (inb' := inb') (hs := hs) (hs' := hs') (hq := hq) h rfl f i hi))

theorem step_wStart (b : Dev nD) (s : Fin 4) {off off' inb inb' hs hs' hq} (h : off = ![512 * b.val, 0]) (h' : off' = ![s.val, 0, 0])
    {sm : DmaSem sig} (hsm : sm = wdS s) {hsrc hdst hsem} :
    wPts m c b ⊢ iprop((∃ f, wbPts (F := F) c s f) -∗ semVal ((c : Thread nD τ), .dma (wdS s)) 0 -∗ (wFl m c s b -∗ WP c (kk ⟨⟩) Q)
      -∗ WP c (.op (.enqueueDma ((Memref.whole main_arg1).slice (Rect.unit (s := S4096x2048) off S512x2048.size inb) hs)
          (.here (((Memref.whole cc0_scratch3).slice (Rect.unit (s := S4x512x2048) off' S1x512x2048.size inb') hs').squeeze S512x2048 hq))
          (.dma sm) hsrc hdst hsem) kk) Q) := by
  subst h'; subst hsm
  iintro Hx ⟨%f, Hb⟩ Hv Hk
  unfold wPts wbPts
  rw [← vset_w (hs := hs) (inb := inb) h]
  iapply (Transfers.wp_dmaLocal EC 𝒱₀ (c : Thread nD τ) none () (wM s).view.dmaCredit rfl (View.dmaCredit_pos _ (by decide))
    (vset_wslot (hs := hs') (hq := hq) (inb := inb') rfl).subset) $$ [Hx Hb Hv]
  · isplitl [Hx]; · iexact Hx
    isplitl [Hb]; · iexact Hb
    iexact Hv
  iintro HF
  iapply Hk
  unfold wFl
  iapply (Transfers.Flight_mono EC (c : Thread nD τ) ?_) $$ HF
  unfold wPts wbPts
  rw [← vset_w (hs := hs) (inb := inb) h]
  exact Entails.of_eq (congrArg (fun P => iprop(P ∗ _)) (pointsTo_congr fun i hi => copy_w m (inb := inb) (inb' := inb') (hs := hs) (hs' := hs') (hq := hq) h rfl f i hi))

/-! What an already closed debt list starts from: after the last barrier signal the arrivals remain. -/
theorem owesB_nil : owesB c [] = owesR c [1, 3, 2, 4, 5, 7, 6] := rfl

theorem lv_xd (s : Fin 4) : lv ((c : Thread nD τ), .dma (xdS s)) () = 0 := by
  unfold lv; rw [if_neg (fun h => by cases h), rmask_xd]; rfl
theorem lv_wd (s : Fin 4) : lv ((c : Thread nD τ), .dma (wdS s)) () = 0 := by
  unfold lv; rw [if_neg (fun h => by cases h), rmask_wd]; rfl

theorem step_xWait (l : List (Fin 8)) (b : Dev nD) (s : Fin 4) {off' inb' hs' hq} (h' : off' = ![s.val, 0, 0])
    {sm : DmaSem sig} (hsm : sm = xdS s) {sp : Space} {srcw : Memref sig .tc sp S512x512 .f32} {hsrc hdst} :
    records m K ⊢ iprop(owing c (owesR c l) -∗ xFl m c s b
      -∗ ((owing c (owesR c l) ∗ xbPts c s (xBlk m c b) ∗ xPts m c b ∗ semVal ((c : Thread nD τ), .dma (xdS s)) 0) -∗ WP c (kk ⟨⟩) Q)
      -∗ WP c (.op (.waitDma2 sm srcw
          (((Memref.whole cc0_scratch0).slice (Rect.unit (s := S4x512x512) off' S1x512x512.size inb') hs').squeeze S512x512 hq) hsrc hdst) kk) Q) := by
  subst h'; subst hsm
  iintro #HR HO HF Hk
  unfold owing xFl
  icases HO with ⟨%W, HO⟩
  iapply (Transfers.wp_waitLocalO EC 𝒱₀ (c : Thread nD τ) none () rfl (O := owesR c l) (W := W)) $$ [HF HO]
  · isplitl [HF]; · iexact HF
    isplitl [HO]; · iexact HO
    iapply (mayWait_low c _ (lv_xd c s) l); iapply (records_lev m K) $$ HR
  iintro ⟨⟨Hb, Hx⟩, Hv, HO⟩
  iapply Hk
  isplitl [HO]; · iexists _; iexact HO
  isplitl [Hb]; · iexact Hb
  isplitl [Hx] <;> iassumption

theorem step_wWait (l : List (Fin 8)) (b : Dev nD) (s : Fin 4) {off' inb' hs' hq} (h' : off' = ![s.val, 0, 0])
    {sm : DmaSem sig} (hsm : sm = wdS s) {sp : Space} {srcw : Memref sig .tc sp S512x2048 .f32} {hsrc hdst} :
    records m K ⊢ iprop(owing c (owesR c l) -∗ wFl m c s b
      -∗ ((owing c (owesR c l) ∗ wbPts c s (wBlk m c b) ∗ wPts m c b ∗ semVal ((c : Thread nD τ), .dma (wdS s)) 0) -∗ WP c (kk ⟨⟩) Q)
      -∗ WP c (.op (.waitDma2 sm srcw
          (((Memref.whole cc0_scratch3).slice (Rect.unit (s := S4x512x2048) off' S1x512x2048.size inb') hs').squeeze S512x2048 hq) hsrc hdst) kk) Q) := by
  subst h'; subst hsm
  iintro #HR HO HF Hk
  unfold owing wFl
  icases HO with ⟨%W, HO⟩
  iapply (Transfers.wp_waitLocalO EC 𝒱₀ (c : Thread nD τ) none () rfl (O := owesR c l) (W := W)) $$ [HF HO]
  · isplitl [HF]; · iexact HF
    isplitl [HO]; · iexact HO
    iapply (mayWait_low c _ (lv_wd c s) l); iapply (records_lev m K) $$ HR
  iintro ⟨⟨Hb, Hx⟩, Hv, HO⟩
  iapply Hk
  isplitl [HO]; · iexists _; iexact HO
  isplitl [Hb]; · iexact Hb
  isplitl [Hx] <;> iassumption

/-! ## Loads and stores of the pieces -/

theorem step_xLoad (b : Dev nD) (s : Fin 4) {off inb hl} (h : off = ![s.val, 0, 0]) {kk : Vec F S1x512x512 .f32 → Prog (TpuEff nD τ sig (Elt F) Λ₀ .tc) α} :
    xbPts c s (xBlk m c b) ⊢ iprop(((∃ f, xbPts c s f) -∗ WP c (kk (xVec m c b)) Q)
      -∗ WP c (.op (.load (Memref.whole cc0_scratch0) (Rect.unit (s := S4x512x512) off S1x512x512.size inb).toLoadRect hl) kk) Q) := by
  unfold xbPts
  have key := wp_load_rect (Γ := .empty) (Q := Q) (defs := defs₀ (F := F)) (hl := hl) (k := kk) (m := Memref.whole cc0_scratch0) (r := Rect.unit (s := S4x512x512) off S1x512x512.size inb) (S := xslot s) (q := fullShare) (f := xBlk m c b)
    𝒱₀ (c : Thread nD τ) none Set.univ ((View.set_slice_whole _ _).trans (set_xslot h)).subset
  have hv : ((Memref.whole cc0_scratch0).access (Rect.unit (s := S4x512x512) off S1x512x512.size inb) : View sig .tc _ _ _).read (Elt F) (xBlk m c b) = xVec m c b := load_x m h
  rw [hv] at key
  iintro H Hk
  iapply key $$ H
  iintro H
  iapply Hk; iexists _; iexact H

/-- The program reads the rows it is about to overwrite; what it reads is not used. -/
theorem step_xqLoad (b : Dev nD) {off inb hl} (h : off = ![512 * b.val, 0]) {kk : Vec F S512x512 .fp8e5m2 → Prog (TpuEff nD τ sig (Elt F) Λ₀ .tc) α} :
    iprop(∃ f, xqPts (F := F) c b f) ⊢ iprop((∀ v, (∃ f, xqPts (F := F) c b f) -∗ WP c (kk v) Q)
      -∗ WP c (.op (.load (Memref.whole cc0_scratch1) (Rect.unit (s := S4096x512) off S512x512.size inb).toLoadRect hl) kk) Q) := by
  iintro ⟨%f, H⟩ Hk
  unfold xqPts
  iapply (wp_load_rect 𝒱₀ (c : Thread nD τ) none Set.univ (m := Memref.whole cc0_scratch1) (r := Rect.unit (s := S4096x512) off S512x512.size inb) (S := rows b) (q := fullShare) (f := f) (hl := hl) (k := kk)
    ((View.set_slice_whole _ _).trans (set_rows h)).subset) $$ H
  iintro H
  iapply Hk; iexists f; iexact H

theorem step_xqStore (b : Dev nD) {off inb hx hm} (h : off = ![512 * b.val, 0]) {w : FVec F S512x512 .fp8e5m2} (hw : w = k0_pay1 (xVec m c b)) :
    iprop(∃ f, xqPts (F := F) c b f) ⊢ iprop((xqPts c b (xq m c) -∗ WP c (kk ⟨⟩) Q)
      -∗ WP c (.op (.store (Memref.whole cc0_scratch1) (Rect.unit (s := S4096x512) off S512x512.size inb) w Finset.univ hx hm) kk) Q) := by
  have hv : ∀ f, ∀ i ∈ rows b, ((Memref.whole cc0_scratch1).access (Rect.unit (s := S4096x512) off S512x512.size inb) : View sig .tc _ _ _).write (Elt F) f w Finset.univ i = xq m c i :=
    fun f i hi => by rw [hw]; exact store_xq m h f i hi
  clear hw
  iintro ⟨%f, H⟩ Hk
  unfold xqPts
  rw [← pointsTo_congr (ℓ := (c : Thread nD τ).loc cc0_scratch1) (hv f)]
  iapply (wp_store 𝒱₀ (c : Thread nD τ) none Set.univ (m := Memref.whole cc0_scratch1) (r := Rect.unit (s := S4096x512) off S512x512.size inb) (w := w) (Mk := Finset.univ) (S := rows b) (f := f) (hx := hx) (hm := hm) (k := kk)
    (by rw [View.setOn_univ]; exact ((View.set_slice_whole _ _).trans (set_rows h)).subset)) $$ H
  iintro H
  iapply Hk; iexact H

theorem step_gLoadOwn {off inb hl} (h : off = ![c.val, 0, 0]) {kk : Vec F S1x512x512 .fp8e5m2 → Prog (TpuEff nD τ sig (Elt F) Λ₀ .tc) α} :
    iprop(∃ f, gPts (F := F) c c f) ⊢ iprop((∀ v, (∃ f, gPts (F := F) c c f) -∗ WP c (kk v) Q)
      -∗ WP c (.op (.load (Memref.whole cc0_scratch2) (Rect.unit (s := S8x512x512) off S1x512x512.size inb).toLoadRect hl) kk) Q) := by
  iintro ⟨%f, H⟩ Hk
  unfold gPts
  iapply (wp_load_rect 𝒱₀ (c : Thread nD τ) none Set.univ (m := Memref.whole cc0_scratch2) (r := Rect.unit (s := S8x512x512) off S1x512x512.size inb) (S := gslot c) (q := fullShare) (f := f) (hl := hl) (k := kk)
    ((View.set_slice_whole _ _).trans (set_gslot h)).subset) $$ H
  iintro H
  iapply Hk; iexists f; iexact H

theorem step_gStoreOwn {off inb hx hm} (h : off = ![c.val, 0, 0]) {w : FVec F S1x512x512 .fp8e5m2} (hw : w = k0_pay10 (k0_pay9 (xVec m c c))) :
    iprop(∃ f, gPts (F := F) c c f) ⊢ iprop((gPts c c (gat m c) -∗ WP c (kk ⟨⟩) Q)
      -∗ WP c (.op (.store (Memref.whole cc0_scratch2) (Rect.unit (s := S8x512x512) off S1x512x512.size inb) w Finset.univ hx hm) kk) Q) := by
  have hv : ∀ f, ∀ i ∈ gslot c, ((Memref.whole cc0_scratch2).access (Rect.unit (s := S8x512x512) off S1x512x512.size inb) : View sig .tc _ _ _).write (Elt F) f w Finset.univ i = gat m c i :=
    fun f i hi => by rw [hw]; exact store_g m h f i hi
  clear hw
  iintro ⟨%f, H⟩ Hk
  unfold gPts
  rw [← pointsTo_congr (ℓ := (c : Thread nD τ).loc cc0_scratch2) (hv f)]
  iapply (wp_store 𝒱₀ (c : Thread nD τ) none Set.univ (m := Memref.whole cc0_scratch2) (r := Rect.unit (s := S8x512x512) off S1x512x512.size inb) (w := w) (Mk := Finset.univ) (S := gslot c) (f := f) (hx := hx) (hm := hm) (k := kk)
    (by rw [View.setOn_univ]; exact ((View.set_slice_whole _ _).trans (set_gslot h)).subset)) $$ H
  iintro H
  iapply Hk; iexact H

theorem step_gLoad (s : Dev nD) {off inb hl} (h : off = ![s.val, 0, 0]) {kk : Vec F S1x512x512 .fp8e5m2 → Prog (TpuEff nD τ sig (Elt F) Λ₀ .tc) α} :
    gPts c s (gat m c) ⊢ iprop((gPts c s (gat m c) -∗ WP c (kk (gVec m c s)) Q)
      -∗ WP c (.op (.load (Memref.whole cc0_scratch2) (Rect.unit (s := S8x512x512) off S1x512x512.size inb).toLoadRect hl) kk) Q) := by
  unfold gPts
  have key := wp_load_rect (Γ := .empty) (Q := Q) (defs := defs₀ (F := F)) (hl := hl) (k := kk) (m := Memref.whole cc0_scratch2) (r := Rect.unit (s := S8x512x512) off S1x512x512.size inb) (S := gslot s) (q := fullShare) (f := gat m c)
    𝒱₀ (c : Thread nD τ) none Set.univ ((View.set_slice_whole _ _).trans (set_gslot h)).subset
  have hv : ((Memref.whole cc0_scratch2).access (Rect.unit (s := S8x512x512) off S1x512x512.size inb) : View sig .tc _ _ _).read (Elt F) (gat m c) = gVec m c s := load_g m h
  rw [hv] at key
  exact key

theorem step_wLoadL (b : Dev nD) (s : Fin 4) {off inb hl} (h : off = ![s.val, 0, 0]) {kk : Vec F S1x512x1024 .f32 → Prog (TpuEff nD τ sig (Elt F) Λ₀ .tc) α} :
    wbPts c s (wBlk m c b) ⊢ iprop((wbPts c s (wBlk m c b) -∗ WP c (kk (wVecL m c b)) Q)
      -∗ WP c (.op (.load (Memref.whole cc0_scratch3) (Rect.unit (s := S4x512x2048) off S1x512x1024.size inb).toLoadRect hl) kk) Q) := by
  unfold wbPts
  have key := wp_load_rect (Γ := .empty) (Q := Q) (defs := defs₀ (F := F)) (hl := hl) (k := kk) (m := Memref.whole cc0_scratch3) (r := Rect.unit (s := S4x512x2048) off S1x512x1024.size inb) (S := wslot s) (q := fullShare) (f := wBlk m c b)
    𝒱₀ (c : Thread nD τ) none Set.univ ((View.set_slice_whole _ _).subset.trans (set_whalf h))
  have hv : ((Memref.whole cc0_scratch3).access (Rect.unit (s := S4x512x2048) off S1x512x1024.size inb) : View sig .tc _ _ _).read (Elt F) (wBlk m c b) = wVecL m c b := load_wL m h
  rw [hv] at key
  exact key

theorem step_wLoadR (b : Dev nD) (s : Fin 4) {off inb hl} (h : off = ![s.val, 0, 1024]) {kk : Vec F S1x512x1024 .f32 → Prog (TpuEff nD τ sig (Elt F) Λ₀ .tc) α} :
    wbPts c s (wBlk m c b) ⊢ iprop(((∃ f, wbPts c s f) -∗ WP c (kk (wVecR m c b)) Q)
      -∗ WP c (.op (.load (Memref.whole cc0_scratch3) (Rect.unit (s := S4x512x2048) off S1x512x1024.size inb).toLoadRect hl) kk) Q) := by
  unfold wbPts
  have key := wp_load_rect (Γ := .empty) (Q := Q) (defs := defs₀ (F := F)) (hl := hl) (k := kk) (m := Memref.whole cc0_scratch3) (r := Rect.unit (s := S4x512x2048) off S1x512x1024.size inb) (S := wslot s) (q := fullShare) (f := wBlk m c b)
    𝒱₀ (c : Thread nD τ) none Set.univ ((View.set_slice_whole _ _).subset.trans (set_whalf h))
  have hv : ((Memref.whole cc0_scratch3).access (Rect.unit (s := S4x512x2048) off S1x512x1024.size inb) : View sig .tc _ _ _).read (Elt F) (wBlk m c b) = wVecR m c b := load_wR m h
  rw [hv] at key
  iintro H Hk
  iapply key $$ H
  iintro H
  iapply Hk; iexists _; iexact H

end Steps

end Cert.KernelIdeal.Exchange
-- ==== Proof.KernelIdeal.Sends.lean ====
/-
The steps of the exchange that move data between devices: a send, the wait for an arrival, and the wait for a send's completion.
-/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

section Steps

variable (K : Dev nD × CellIx → ℕ) (c : Dev nD) {α : Type} {Q : α → sProp (MT nD τ sig Unit (Elt F) ℕ UU ℕ)} {kk : PUnit.{1} → Prog (TpuEff nD τ sig (Elt F) Λ₀ .tc) α}

/-! ## The transfers between devices -/

/-- Every landing slot receives the same number of bytes. -/
theorem amount_slot {off inb hs hq} (sm : DmaSem sig) : (((Memref.whole cc0_scratch2).slice (Rect.unit (s := S8x512x512) off S1x512x512.size inb) hs).squeeze S512x512 hq).view.amount (.dma sm) = N := rfl

/-- The rows a partner multiplies go to that partner's landing stack: the debt of that arrival is paid, and the wait for the send's completion is now covered. -/
theorem step_send (k : Fin 8) (hk : k ≠ 0) (l : List (Fin 8)) {off off' inb inb' hs hs' hq} (h : off = ![512 * (px k c).val, 0]) (h' : off' = ![c.val, 0, 0])
    {s₁ s₂ : DmaSem sig} (h₁ : s₁ = sendS k) (h₂ : s₂ = recvS k) {n : Dev nD} (hn : n = px k c) {hsc hsrc hdst hsem} :
    records m K ⊢ iprop(owing c (owesR c (k :: l)) -∗ xqPts c (px k c) (xq m c) -∗ (∃ f, gPts (F := F) (px k c) c f)
      -∗ dutyTok (ER (F := F)) (sendCell c k) 0 0 -∗ dutyTok (ER (F := F)) (recvCell (px k c) k) 0 0
      -∗ ((owing c (owesR c l) ∗ cred (tallyAt (sendCell c k) () N)) -∗ WP c (kk ⟨⟩) Q)
      -∗ WP c (.op (.enqueueDma ((Memref.whole cc0_scratch1).slice (Rect.unit (s := S4096x512) off S512x512.size inb) hs)
          (.remote (n : Thread nD τ) (((Memref.whole cc0_scratch2).slice (Rect.unit (s := S8x512x512) off' S1x512x512.size inb') hs').squeeze S512x512 hq) (.dma s₁) hsc)
          (.dma s₂) hsrc hdst hsem) kk) Q) := by
  subst h₁; subst h₂; subst hn
  have hcopy : ∀ f, ∀ i ∈ gslot c, (((Memref.whole cc0_scratch2).slice (Rect.unit (s := S8x512x512) off' S1x512x512.size inb') hs').squeeze S512x512 hq).view.write (Elt F) f
      (((Memref.whole cc0_scratch1).slice (Rect.unit (s := S4096x512) off S512x512.size inb) hs).view.read (Elt F) (xq m c)) Finset.univ i = gat m (px k c) i :=
    fun f i hi => copy_g m (inb := inb) (inb' := inb') (hs := hs) (hs' := hs') (hq := hq) h h' f i hi
  have hset := vset_xq (hs := hs) (inb := inb) h
  have hset' := vset_gslot (hs := hs') (hq := hq) (inb := inb') h'
  have hN := amount_slot (off := off') (inb := inb') (hs := hs') (hq := hq) (recvS k)
  iintro #HR HO Hx ⟨%fn, Hg⟩ Ht₁ Ht₂ Hk
  unfold owing
  icases HO with ⟨%W, HO⟩
  ihave #HI₁ := (records_cell m K (c, some (false, k))) $$ HR
  icases HI₁ with ⟨#HI₁, #Hr₁⟩
  ihave #HI₂ := (records_cell m K (px k c, some (true, k))) $$ HR
  icases HI₂ with ⟨#HI₂, #Hr₂⟩
  have key := Rounds.wp_send_pointsTo (defs := defs₀ (F := F)) (Γ := .empty) (Q := Q) (Es := Set.univ) (k := kk)
    (src := (Memref.whole cc0_scratch1).slice (Rect.unit (s := S4096x512) off S512x512.size inb) hs)
    (dst := ((Memref.whole cc0_scratch2).slice (Rect.unit (s := S8x512x512) off' S1x512x512.size inb') hs').squeeze S512x512 hq)
    (sS := .dma (sendS k)) (sem := .dma (recvS k)) (c' := (px k c : Thread nD τ)) (hsc := hsc) (hsrc := hsrc) (hdst := hdst) (hsem := hsem)
    𝒱₀ ER (ringRd m) (c : Thread nD τ) none (κ₁ := K (c, some (false, k))) (κ₂ := K (px k c, some (true, k)))
    (r₁ := 0) (r₂ := 0) (d₁ := 0) (d₂ := 0) (fs := xq m c) (fd := fn) (q := fullShare)
    (by rw [duties_send m c k hk]; exact Finset.mem_singleton_self _) (by rw [duties_recv m (px k c) k hk]; exact Finset.mem_singleton_self _)
    () () N hN (amount_send m c k 0) (amount_recv m (px k c) k 0) (O₀ := owesR c (k :: l)) (owesR c l) (by rw [owesR]) (W := W)
    (by rw [payload_send, hset]; unfold sendPay xqPts; exact BI.Entails.refl _)
    (by rw [payload_recv, hset']; unfold recvPay gPts; rw [px_px]
        rw [pointsTo_congr (ℓ := (px k c : Thread nD τ).loc cc0_scratch2) (hcopy fn)])
  rw [hset, hset'] at key
  unfold xqPts gPts
  iapply key $$ [HO Hx Hg Ht₁ Ht₂]
  · isplitr; · iexact HI₁
    isplitr; · iexact HI₂
    isplitl [Hx]; · iexact Hx
    isplitl [Hg]; · iexact Hg
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W; iexact HO
  iexact Hc

theorem step_recvWait (k : Fin 8) (hk : k ≠ 0) {off' inb' hs' hq}
    {sm : DmaSem sig} (hsm : sm = recvS k) {sp : Space} {s' : Shape} {e' : EltTy} {srcw : Memref sig .tc sp s' e'} {hsrc hdst} :
    records m K ⊢ iprop(owing c (owesR c []) -∗ cred (tallyAt (recvCell c k) () N) -∗ atPos (ER (F := F)) (recvCell c k) 0 ∅ 0
      -∗ ((owing c (owesR c []) ∗ atPos (ER (F := F)) (recvCell c k) 1 ∅ 0 ∗ gPts c (px k c) (gat m c)) -∗ WP c (kk ⟨⟩) Q)
      -∗ WP c (.op (.waitDma2 sm srcw
          (((Memref.whole cc0_scratch2).slice (Rect.unit (s := S8x512x512) off' S1x512x512.size inb') hs').squeeze S512x512 hq) hsrc hdst) kk) Q) := by
  subst hsm
  iintro #HR HO Hc Hat Hk
  unfold owing
  icases HO with ⟨%W, HO⟩
  ihave #HI := (records_cell m K (c, some (true, k))) $$ HR
  icases HI with ⟨#HI, #Hr⟩
  iapply (Rounds.wp_wait_rest_token 𝒱₀ ER (ringRd m) (c : Thread nD τ) none (κ := K (c, some (true, k)))
      (wpE_waitDma2_eq 𝒱₀ (c : Thread nD τ) none Set.univ) (Set.mem_univ _) () (O := owesR c []) (W := W) (R := 0) (m := 0) (T := ∅)
      (by rw [expect_recv m c k hk, Nat.zero_add]; rfl)) $$ [Hc HO Hat]
  · isplitr; · iexact HI
    isplitl [Hc]; · iexact Hc
    isplitl [HO]; · iexact HO
    isplitr; · unfold owesR; rw [MayWait_zero]; iempintro
    iexact Hat
  iintro ⟨HO, Hat, -, Hpay⟩
  ihave Hp := (Entails.of_eq (rest_recv m c k hk)) $$ Hpay
  iapply Hk
  isplitl [HO]; · iexists _; iexact HO
  isplitl [Hat]; · iexact Hat
  unfold recvPay; iexact Hp

theorem step_sendWait (k : Fin 8) (hk : k ≠ 0) {off inb hs}
    {sm : DmaSem sig} (hsm : sm = sendS k) {sp : Space} {s' : Shape} {e' : EltTy} {srcw : Memref sig .tc sp s' e'} {hsrc hdst} :
    records m K ⊢ iprop(owing c (owesR c []) -∗ cred (tallyAt (sendCell c k) () N) -∗ atPos (ER (F := F)) (sendCell c k) 0 ∅ 0
      -∗ ((owing c (owesR c []) ∗ atPos (ER (F := F)) (sendCell c k) 1 ∅ 0 ∗ xqPts c (px k c) (xq m c)) -∗ WP c (kk ⟨⟩) Q)
      -∗ WP c (.op (.waitDma2 sm srcw
          ((Memref.whole cc0_scratch1).slice (Rect.unit (s := S4096x512) off S512x512.size inb) hs) hsrc hdst) kk) Q) := by
  subst hsm
  iintro #HR HO Hc Hat Hk
  unfold owing
  icases HO with ⟨%W, HO⟩
  ihave #HI := (records_cell m K (c, some (false, k))) $$ HR
  icases HI with ⟨#HI, #Hr⟩
  iapply (Rounds.wp_wait_rest_token 𝒱₀ ER (ringRd m) (c : Thread nD τ) none (κ := K (c, some (false, k)))
      (wpE_waitDma2_eq 𝒱₀ (c : Thread nD τ) none Set.univ) (Set.mem_univ _) () (O := owesR c []) (W := W) (R := 0) (m := 0) (T := ∅)
      (by rw [expect_send m c k hk, Nat.zero_add]; rfl)) $$ [Hc HO Hat]
  · isplitr; · iexact HI
    isplitl [Hc]; · iexact Hc
    isplitl [HO]; · iexact HO
    isplitr; · unfold owesR; rw [MayWait_zero]; iempintro
    iexact Hat
  iintro ⟨HO, Hat, -, Hpay⟩
  ihave Hp := (Entails.of_eq (rest_send m c k hk)) $$ Hpay
  iapply Hk
  isplitl [HO]; · iexists _; iexact HO
  isplitl [Hat]; · iexact Hat
  unfold sendPay; iexact Hp

end Steps

end Cert.KernelIdeal.Exchange
-- ==== Proof.KernelIdeal.Words.lean ====
/-
The two scalar loads and the two stores of the result, and what the result's buffer holds after both stores.
-/
module

public import proofs.«01_k».proof.Proof.KernelIdeal.Sends

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-- The two scale words, and the result's buffer, of device `c`. -/
def s0Pts (c : Dev nD) (f : S1.Idx → F .f32) : sProp 𝕄 := ((c : Thread nD τ).loc cc0_stg0_0 ↦{fullShare} f)
def s1Pts (c : Dev nD) (f : S1.Idx → F .f32) : sProp 𝕄 := ((c : Thread nD τ).loc cc0_stg1_0 ↦{fullShare} f)
def oPts (c : Dev nD) (f : S512x2048.Idx → F .f32) : sProp 𝕄 := ((c : Thread nD τ).loc cc0_stg2_0 ↦{fullShare} f)

/-- The one word of a buffer of one word. -/
def word (f : S1.Idx → F .f32) : F .f32 := f (fun a => ⟨0, by fin_cases a; exact Nat.one_pos⟩)

/-- The result's buffer as its left half and its right half. -/
def halves (a b : S512x1024.Idx → F .f32) : S512x2048.Idx → F .f32 := fun i =>
  if h : (i 1).val < 1024 then a (ValueIdx.ix2 (n0 := 512) (n1 := 1024) (i 0) ⟨(i 1).val, h⟩)
  else b (ValueIdx.ix2 (n0 := 512) (n1 := 1024) (i 0) ⟨(i 1).val - 1024, by have : (i 1).val < 2048 := (i 1).isLt; omega⟩)

abbrev rL : Rect S512x2048 := Rect.unit (s := S512x2048) ![0, 0] S512x1024.size inb_S512x2048_S512x1024_0_0
abbrev rR : Rect S512x2048 := Rect.unit (s := S512x2048) ![0, 1024] S512x1024.size inb_S512x2048_S512x1024_0_1024

/-- The contents after a store of `w` on a rectangle of the result's buffer. -/
abbrev put (r : Rect S512x2048) (f : S512x2048.Idx → F .f32) (w : r.shape.Idx → F .f32) : S512x2048.Idx → F .f32 :=
  ((Memref.whole cc0_stg2_0).access r : View sig .tc _ _ _).write (Elt F) f w Finset.univ

theorem put_both (f : S512x2048.Idx → F .f32) (a b : S512x1024.Idx → F .f32) : put rR (put rL f a) b = halves a b := by
  funext i
  have h2 : (i 1).val < 2048 := (i 1).isLt
  by_cases h : (i 1).val < 1024
  · have hi : i = rL.emb (ValueIdx.ix2 (n0 := 512) (n1 := 1024) (i 0) ⟨(i 1).val, h⟩) := by
      funext x; apply Fin.ext; rw [Rect.emb_apply]
      fin_cases x <;> simp [ValueIdx.ix2]
    unfold halves; rw [dif_pos h]
    refine (View.write_of_not_mem _ _ _ ?_).trans ?_
    · rw [View.setOn_univ]
      intro hm
      rw [show ((Memref.whole cc0_stg2_0).access rR : View sig .tc _ _ _).set = rR.set from View.set_slice_whole _ _, Rect.mem_set_unit] at hm
      have := (hm 1).1
      simp at this; omega
    · exact (congrArg (put rL f a) hi).trans (View.write_emb_of_mem _ _ (Finset.mem_univ _))
  · have hi : i = rR.emb (ValueIdx.ix2 (n0 := 512) (n1 := 1024) (i 0) ⟨(i 1).val - 1024, by omega⟩) := by
      funext x; apply Fin.ext; rw [Rect.emb_apply]
      fin_cases x <;> simp [ValueIdx.ix2]; omega
    unfold halves; rw [dif_neg h]
    exact (congrArg (put rR (put rL f a) b) hi).trans (View.write_emb_of_mem _ _ (Finset.mem_univ _))

section Words

variable (c : Dev nD) {α : Type} {Q : α → sProp (MT nD τ sig Unit (Elt F) ℕ UU ℕ)} {kk : PUnit.{1} → Prog (TpuEff nD τ sig (Elt F) Λ₀ .tc) α}

/-- A program that has ended. -/
theorem wp_done {a : α} : Q a ⊢ WP c (.ret a) Q := by
  simp only [WP, wp_ret]; iintro H; imodintro; iexact H

theorem step_word0 (f : S1.Idx → F .f32) {inb hl} {kk : Vec F S1 .f32 → Prog (TpuEff nD τ sig (Elt F) Λ₀ .tc) α} :
    s0Pts c f ⊢ iprop((s0Pts c f -∗ WP c (kk (fun _ => word f)) Q)
      -∗ WP c (.op (.load (Memref.whole cc0_stg0_0) (Rect.unit (s := S1) ![0] S1.size inb).toLoadRect hl) kk) Q) := by
  unfold s0Pts
  have key := wp_load_rect (Γ := .empty) (Q := Q) (defs := defs₀ (F := F)) (hl := hl) (k := kk) (m := Memref.whole cc0_stg0_0) (r := Rect.unit (s := S1) ![0] S1.size inb) (S := Finset.univ) (q := fullShare) (f := f)
    𝒱₀ (c : Thread nD τ) none Set.univ (Finset.subset_univ _)
  have hv : ((Memref.whole cc0_stg0_0).access (Rect.unit (s := S1) ![0] S1.size inb) : View sig .tc _ _ _).read (Elt F) f = fun _ => word f :=
    funext fun x => congrArg f (funext fun a => by fin_cases a; exact Subsingleton.elim (α := Fin 1) _ _)
  rw [hv] at key
  exact key

theorem step_word1 (f : S1.Idx → F .f32) {inb hl} {kk : Vec F S1 .f32 → Prog (TpuEff nD τ sig (Elt F) Λ₀ .tc) α} :
    s1Pts c f ⊢ iprop((s1Pts c f -∗ WP c (kk (fun _ => word f)) Q)
      -∗ WP c (.op (.load (Memref.whole cc0_stg1_0) (Rect.unit (s := S1) ![0] S1.size inb).toLoadRect hl) kk) Q) := by
  unfold s1Pts
  have key := wp_load_rect (Γ := .empty) (Q := Q) (defs := defs₀ (F := F)) (hl := hl) (k := kk) (m := Memref.whole cc0_stg1_0) (r := Rect.unit (s := S1) ![0] S1.size inb) (S := Finset.univ) (q := fullShare) (f := f)
    𝒱₀ (c : Thread nD τ) none Set.univ (Finset.subset_univ _)
  have hv : ((Memref.whole cc0_stg1_0).access (Rect.unit (s := S1) ![0] S1.size inb) : View sig .tc _ _ _).read (Elt F) f = fun _ => word f :=
    funext fun x => congrArg f (funext fun a => by fin_cases a; exact Subsingleton.elim (α := Fin 1) _ _)
  rw [hv] at key
  exact key

/-- The program reads the part of the result it is about to overwrite; what it reads is not used. -/
theorem step_oLoad (f : S512x2048.Idx → F .f32) {r : Rect S512x2048} {hl} {kk : (r.shape.Idx → Elt F .f32) → Prog (TpuEff nD τ sig (Elt F) Λ₀ .tc) α} :
    oPts c f ⊢ iprop((∀ v, oPts c f -∗ WP c (kk v) Q) -∗ WP c (.op (.load (Memref.whole cc0_stg2_0) r.toLoadRect hl) kk) Q) := by
  have key := wp_load_rect (Γ := .empty) (Q := Q) (defs := defs₀ (F := F)) (hl := hl) (k := kk) (m := Memref.whole cc0_stg2_0) (r := r) (S := Finset.univ) (q := fullShare) (f := f)
    𝒱₀ (c : Thread nD τ) none Set.univ (Finset.subset_univ _)
  iintro H Hk
  unfold oPts
  iapply key $$ H
  iintro H
  iapply Hk; iexact H

theorem step_oStore (f : S512x2048.Idx → F .f32) {r : Rect S512x2048} {w hx hm} :
    oPts c f ⊢ iprop((oPts c (put r f w) -∗ WP c (kk ⟨⟩) Q) -∗ WP c (.op (.store (Memref.whole cc0_stg2_0) r w Finset.univ hx hm) kk) Q) := by
  unfold oPts
  exact wp_store (Γ := .empty) (Q := Q) (defs := defs₀ (F := F)) (hx := hx) (hm := hm) (k := kk) (m := Memref.whole cc0_stg2_0) (r := r) (w := w) (Mk := Finset.univ) (S := Finset.univ) (f := f)
    𝒱₀ (c : Thread nD τ) none Set.univ (Finset.subset_univ _)

end Words

end Cert.KernelIdeal.Exchange
-- ==== Proof.KernelIdeal.PartsA.lean ====
/-
What each of the first eight parts of the program needs and leaves: the barrier, the first casts and the first transfers.
-/
module

public import proofs.«01_k».proof.Proof.KernelIdeal.Words

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

theorem off3_eq (c : Dev nD) : k0_off3 c = ![c.val, 0, 0] := by revert c; decide +kernel
theorem off4_eq (c : Dev nD) : k0_off4 c = ![512 * c.val, 0] := by revert c; decide +kernel
theorem off5_eq (c : Dev nD) : k0_off5 c = ![512 * c.val, 0] := by revert c; decide +kernel
theorem off7_eq (c : Dev nD) : k0_off7 c = ![c.val, 0, 0] := by revert c; decide +kernel

/-- The seven casts of a loaded block are one function. -/
theorem pay2_eq (v : Vec F S1x512x512 .f32) : k0_pay2 v = k0_pay1 v := rfl
theorem pay3_eq (v : Vec F S1x512x512 .f32) : k0_pay3 v = k0_pay1 v := rfl
theorem pay4_eq (v : Vec F S1x512x512 .f32) : k0_pay4 v = k0_pay1 v := rfl
theorem pay5_eq (v : Vec F S1x512x512 .f32) : k0_pay5 v = k0_pay1 v := rfl
theorem pay6_eq (v : Vec F S1x512x512 .f32) : k0_pay6 v = k0_pay1 v := rfl
theorem pay8_eq (v : Vec F S1x512x512 .f32) : k0_pay8 (k0_pay7 v) = k0_pay1 v := rfl

/-- The partners' landing slots, one by one. -/
theorem bar_split (c : Dev nD) : bigSepL masks (fun d => barPay (F := F) c d)
    = iprop((∃ f, gPts (F := F) (px 1 c) c f) ∗ (∃ f, gPts (F := F) (px 3 c) c f) ∗ (∃ f, gPts (F := F) (px 2 c) c f) ∗ (∃ f, gPts (F := F) (px 4 c) c f) ∗ (∃ f, gPts (F := F) (px 5 c) c f) ∗ (∃ f, gPts (F := F) (px 7 c) c f) ∗ (∃ f, gPts (F := F) (px 6 c) c f)) := rfl

section Parts

variable (K : Dev nD × CellIx → ℕ) (c : Dev nD)

theorem part1 {Q : _ → sProp 𝕄} :
    records m K ⊢ iprop(owing c (owesB c [1, 3, 2, 4, 5, 7, 6])
      -∗ dutyTok (ER (F := F)) (barCell (px 1 c)) 0 1
      -∗ (∃ f, gPts (F := F) c (px 1 c) f)
      -∗ dutyTok (ER (F := F)) (barCell (px 3 c)) 0 3
      -∗ (∃ f, gPts (F := F) c (px 3 c) f)
      -∗ dutyTok (ER (F := F)) (barCell (px 2 c)) 0 2
      -∗ (∃ f, gPts (F := F) c (px 2 c) f)
      -∗ dutyTok (ER (F := F)) (barCell (px 4 c)) 0 4
      -∗ (∃ f, gPts (F := F) c (px 4 c) f)
      -∗ dutyTok (ER (F := F)) (barCell (px 5 c)) 0 5
      -∗ (∃ f, gPts (F := F) c (px 5 c) f)
      -∗ dutyTok (ER (F := F)) (barCell (px 7 c)) 0 7
      -∗ (∃ f, gPts (F := F) c (px 7 c) f)
      -∗ ((owing c (owesB c [6])) -∗ Q ⟨c, Scalar.remsi (Scalar.divsi (Dev.word c) 1#32) 8#32, (SemArray.scalar (sig.barrier 0 rfl)), Scalar.muli (Scalar.xori (Scalar.remsi (Scalar.divsi (Dev.word c) 1#32) 8#32) 6#32) 1#32⟩)
      -∗ WP c (k0_part1 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [k0_part1_eq_skeleton]; unfold k0_part1_skel
  simp only [semSignalWord, semWaitWord, smemLoad, smemLoadElt, Prog.lift, Prog.bind_op, Prog.bind_ret, Prog.pure_eq_ret, wp_deviceId]
  simp only [dev1_eq c, dev2_eq c, dev3_eq c, dev4_eq c, dev5_eq c, dev6_eq c]
  iintro #HR HO Hbt1 Hgl1 Hbt3 Hgl3 Hbt2 Hgl2 Hbt4 Hgl4 Hbt5 Hgl5 Hbt7 Hgl7 Hk
  iapply (step_signal m K c 1 (by decide) [3, 2, 4, 5, 7, 6] (n := (1#32 : BitVec 32).toNat) rfl) $$ HR HO Hbt1 Hgl1
  iintro HO
  iapply (step_signal m K c 3 (by decide) [2, 4, 5, 7, 6] (n := (1#32 : BitVec 32).toNat) rfl) $$ HR HO Hbt3 Hgl3
  iintro HO
  iapply (step_signal m K c 2 (by decide) [4, 5, 7, 6] (n := (1#32 : BitVec 32).toNat) rfl) $$ HR HO Hbt2 Hgl2
  iintro HO
  iapply (step_signal m K c 4 (by decide) [5, 7, 6] (n := (1#32 : BitVec 32).toNat) rfl) $$ HR HO Hbt4 Hgl4
  iintro HO
  iapply (step_signal m K c 5 (by decide) [7, 6] (n := (1#32 : BitVec 32).toNat) rfl) $$ HR HO Hbt5 Hgl5
  iintro HO
  iapply (step_signal m K c 7 (by decide) [6] (n := (1#32 : BitVec 32).toNat) rfl) $$ HR HO Hbt7 Hgl7
  iintro HO
  iapply (wp_done c)
  iapply Hk
  iexact HO

theorem part2 (v2 v23 : BitVec 32) {Q : _ → sProp 𝕄} :
    records m K ⊢ iprop(owing c (owesB c [6])
      -∗ dutyTok (ER (F := F)) (barCell (px 6 c)) 0 6
      -∗ (∃ f, gPts (F := F) c (px 6 c) f)
      -∗ xPts m c (px 1 c)
      -∗ (∃ f, xbPts (F := F) c 0 f)
      -∗ semVal ((c : Thread nD τ), .dma (xdS 0)) 0
      -∗ xPts m c (px 3 c)
      -∗ (∃ f, xbPts (F := F) c 1 f)
      -∗ semVal ((c : Thread nD τ), .dma (xdS 1)) 0
      -∗ xPts m c (px 2 c)
      -∗ (∃ f, xbPts (F := F) c 2 f)
      -∗ semVal ((c : Thread nD τ), .dma (xdS 2)) 0
      -∗ ((owing c (owesR c [1, 3, 2, 4, 5, 7, 6])
          ∗ xFl m c 0 (px 1 c)
          ∗ xFl m c 1 (px 3 c)
          ∗ xFl m c 2 (px 2 c)) -∗ Q ⟨⟩)
      -∗ WP c (k0_part2 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl)) v23) Q) := by
  simp only [k0_part2_eq_skeleton]; unfold k0_part2_skel
  simp only [semSignalWord, semWaitWord, smemLoad, smemLoadElt, Prog.lift, Prog.bind_op, Prog.bind_ret, Prog.pure_eq_ret, wp_deviceId]
  simp only [dev7_eq c]
  iintro #HR HO Hbt6 Hgl6 Hx1 Hxb0 Hsx0 Hx3 Hxb1 Hsx1 Hx2 Hxb2 Hsx2 Hk
  iapply (step_signal m K c 6 (by decide) [] (n := (1#32 : BitVec 32).toNat) rfl) $$ HR HO Hbt6 Hgl6
  iintro HO
  ihave HO := (Entails.of_eq (congrArg (owing (F := F) c) (owesB_nil c))) $$ HO
  iapply (step_xStart m c (px 1 c) 0 (off1_eq 1 c) rfl rfl) $$ Hx1 Hxb0 Hsx0
  iintro Hxf0
  iapply (step_xStart m c (px 3 c) 1 (off1_eq 3 c) rfl rfl) $$ Hx3 Hxb1 Hsx1
  iintro Hxf1
  iapply (step_xStart m c (px 2 c) 2 (off1_eq 2 c) rfl rfl) $$ Hx2 Hxb2 Hsx2
  iintro Hxf2
  iapply (wp_done c)
  iapply Hk
  isplitl [HO]; · iexact HO
  isplitl [Hxf0]; · iexact Hxf0
  isplitl [Hxf1]; · iexact Hxf1
  iexact Hxf2

theorem part3 (v2 : BitVec 32) {Q : _ → sProp 𝕄} :
    records m K ⊢ iprop(xPts m c (px 4 c)
      -∗ (∃ f, xbPts (F := F) c 3 f)
      -∗ semVal ((c : Thread nD τ), .dma (xdS 3)) 0
      -∗ owing c (owesR c [1, 3, 2, 4, 5, 7, 6])
      -∗ xFl m c 0 (px 1 c)
      -∗ (∃ f, xqPts (F := F) c (px 1 c) f)
      -∗ cred (tallyAt (barCell c) () 7)
      -∗ atPos (ER (F := F)) (barCell c) 0 ∅ 0
      -∗ dutyTok (ER (F := F)) (sendCell c 1) 0 0
      -∗ dutyTok (ER (F := F)) (recvCell (px 1 c) 1) 0 0
      -∗ ((xFl m c 3 (px 4 c)
          ∗ xPts m c (px 1 c)
          ∗ semVal ((c : Thread nD τ), .dma (xdS 0)) 0
          ∗ (∃ f, xbPts (F := F) c 0 f)
          ∗ atPos (ER (F := F)) (barCell c) 1 ∅ 0
          ∗ (∃ f, gPts (F := F) (px 3 c) c f)
          ∗ (∃ f, gPts (F := F) (px 2 c) c f)
          ∗ (∃ f, gPts (F := F) (px 4 c) c f)
          ∗ (∃ f, gPts (F := F) (px 5 c) c f)
          ∗ (∃ f, gPts (F := F) (px 7 c) c f)
          ∗ (∃ f, gPts (F := F) (px 6 c) c f)
          ∗ owing c (owesR c [3, 2, 4, 5, 7, 6])
          ∗ cred (tallyAt (sendCell c 1) () N)) -∗ Q ⟨⟩)
      -∗ WP c (k0_part3 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl))) Q) := by
  simp only [k0_part3_eq_skeleton]; unfold k0_part3_skel
  simp only [semSignalWord, semWaitWord, smemLoad, smemLoadElt, Prog.lift, Prog.bind_op, Prog.bind_ret, Prog.pure_eq_ret, wp_deviceId]
  iintro #HR Hx4 Hxb3 Hsx3 HO Hxf0 Hxq1 Hcb Hab Hts1 Htr1 Hk
  iapply (step_xStart m c (px 4 c) 3 (off1_eq 4 c) rfl rfl) $$ Hx4 Hxb3 Hsx3
  iintro Hxf3
  iapply (step_xWait m K c [1, 3, 2, 4, 5, 7, 6] (px 1 c) 0 rfl rfl) $$ HR HO Hxf0
  iintro ⟨HO, Hxb0, Hx1, Hsx0⟩
  iapply (step_xLoad m c (px 1 c) 0 rfl) $$ Hxb0
  iintro Hxb0
  iapply (step_xqLoad c (px 1 c) (off2_eq 1 c)) $$ Hxq1
  iintro %u Hxq1
  iapply (step_xqStore m c (px 1 c) (off2_eq 1 c) rfl) $$ Hxq1
  iintro Hxq1
  iapply (step_barWait m K c [1, 3, 2, 4, 5, 7, 6] (n := (7#32 : BitVec 32).toNat) rfl) $$ HR HO Hcb Hab
  iintro ⟨HO, Hab, Hp⟩
  ihave Hp := (Entails.of_eq (bar_split (F := F) c)) $$ Hp
  icases Hp with ⟨Hgr1, Hgr3, Hgr2, Hgr4, Hgr5, Hgr7, Hgr6⟩
  iapply (step_send m K c 1 (by decide) [3, 2, 4, 5, 7, 6] (off1_eq 1 c) (off3_eq c) rfl rfl (dev8_eq c)) $$ HR HO Hxq1 Hgr1 Hts1 Htr1
  iintro ⟨HO, Hcs1⟩
  iapply (wp_done c)
  iapply Hk
  isplitl [Hxf3]; · iexact Hxf3
  isplitl [Hx1]; · iexact Hx1
  isplitl [Hsx0]; · iexact Hsx0
  isplitl [Hxb0]; · iexact Hxb0
  isplitl [Hab]; · iexact Hab
  isplitl [Hgr3]; · iexact Hgr3
  isplitl [Hgr2]; · iexact Hgr2
  isplitl [Hgr4]; · iexact Hgr4
  isplitl [Hgr5]; · iexact Hgr5
  isplitl [Hgr7]; · iexact Hgr7
  isplitl [Hgr6]; · iexact Hgr6
  isplitl [HO]; · iexact HO
  iexact Hcs1

theorem part4 (v2 : BitVec 32) {Q : _ → sProp 𝕄} :
    records m K ⊢ iprop(xPts m c (px 5 c)
      -∗ (∃ f, xbPts (F := F) c 0 f)
      -∗ semVal ((c : Thread nD τ), .dma (xdS 0)) 0
      -∗ owing c (owesR c [3, 2, 4, 5, 7, 6])
      -∗ xFl m c 1 (px 3 c)
      -∗ (∃ f, xqPts (F := F) c (px 3 c) f)
      -∗ ((xFl m c 0 (px 5 c)
          ∗ owing c (owesR c [3, 2, 4, 5, 7, 6])
          ∗ xPts m c (px 3 c)
          ∗ semVal ((c : Thread nD τ), .dma (xdS 1)) 0
          ∗ (∃ f, xbPts (F := F) c 1 f)
          ∗ xqPts c (px 3 c) (xq m c)) -∗ Q ⟨⟩)
      -∗ WP c (k0_part4 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q) := by
  simp only [k0_part4_eq_skeleton]; unfold k0_part4_skel
  simp only [semSignalWord, semWaitWord, smemLoad, smemLoadElt, Prog.lift, Prog.bind_op, Prog.bind_ret, Prog.pure_eq_ret, wp_deviceId]
  iintro #HR Hx5 Hxb0 Hsx0 HO Hxf1 Hxq3 Hk
  iapply (step_xStart m c (px 5 c) 0 (off1_eq 5 c) rfl rfl) $$ Hx5 Hxb0 Hsx0
  iintro Hxf0
  iapply (step_xWait m K c [3, 2, 4, 5, 7, 6] (px 3 c) 1 rfl rfl) $$ HR HO Hxf1
  iintro ⟨HO, Hxb1, Hx3, Hsx1⟩
  iapply (step_xLoad m c (px 3 c) 1 rfl) $$ Hxb1
  iintro Hxb1
  iapply (step_xqLoad c (px 3 c) (off2_eq 3 c)) $$ Hxq3
  iintro %u Hxq3
  iapply (step_xqStore m c (px 3 c) (off2_eq 3 c) (pay2_eq _)) $$ Hxq3
  iintro Hxq3
  iapply (wp_done c)
  iapply Hk
  isplitl [Hxf0]; · iexact Hxf0
  isplitl [HO]; · iexact HO
  isplitl [Hx3]; · iexact Hx3
  isplitl [Hsx1]; · iexact Hsx1
  isplitl [Hxb1]; · iexact Hxb1
  iexact Hxq3

theorem part5 (v2 : BitVec 32) {Q : _ → sProp 𝕄} :
    records m K ⊢ iprop(owing c (owesR c [3, 2, 4, 5, 7, 6])
      -∗ xqPts c (px 3 c) (xq m c)
      -∗ (∃ f, gPts (F := F) (px 3 c) c f)
      -∗ dutyTok (ER (F := F)) (sendCell c 3) 0 0
      -∗ dutyTok (ER (F := F)) (recvCell (px 3 c) 3) 0 0
      -∗ xPts m c (px 7 c)
      -∗ (∃ f, xbPts (F := F) c 1 f)
      -∗ semVal ((c : Thread nD τ), .dma (xdS 1)) 0
      -∗ xFl m c 2 (px 2 c)
      -∗ (∃ f, xqPts (F := F) c (px 2 c) f)
      -∗ ((cred (tallyAt (sendCell c 3) () N)
          ∗ xFl m c 1 (px 7 c)
          ∗ owing c (owesR c [2, 4, 5, 7, 6])
          ∗ xPts m c (px 2 c)
          ∗ semVal ((c : Thread nD τ), .dma (xdS 2)) 0
          ∗ (∃ f, xbPts (F := F) c 2 f)
          ∗ xqPts c (px 2 c) (xq m c)) -∗ Q ⟨⟩)
      -∗ WP c (k0_part5 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q) := by
  simp only [k0_part5_eq_skeleton]; unfold k0_part5_skel
  simp only [semSignalWord, semWaitWord, smemLoad, smemLoadElt, Prog.lift, Prog.bind_op, Prog.bind_ret, Prog.pure_eq_ret, wp_deviceId]
  iintro #HR HO Hxq3 Hgr3 Hts3 Htr3 Hx7 Hxb1 Hsx1 Hxf2 Hxq2 Hk
  iapply (step_send m K c 3 (by decide) [2, 4, 5, 7, 6] (off1_eq 3 c) (off3_eq c) rfl rfl (dev9_eq c)) $$ HR HO Hxq3 Hgr3 Hts3 Htr3
  iintro ⟨HO, Hcs3⟩
  iapply (step_xStart m c (px 7 c) 1 (off1_eq 7 c) rfl rfl) $$ Hx7 Hxb1 Hsx1
  iintro Hxf1
  iapply (step_xWait m K c [2, 4, 5, 7, 6] (px 2 c) 2 rfl rfl) $$ HR HO Hxf2
  iintro ⟨HO, Hxb2, Hx2, Hsx2⟩
  iapply (step_xLoad m c (px 2 c) 2 rfl) $$ Hxb2
  iintro Hxb2
  iapply (step_xqLoad c (px 2 c) (off2_eq 2 c)) $$ Hxq2
  iintro %u Hxq2
  iapply (step_xqStore m c (px 2 c) (off2_eq 2 c) (pay3_eq _)) $$ Hxq2
  iintro Hxq2
  iapply (wp_done c)
  iapply Hk
  isplitl [Hcs3]; · iexact Hcs3
  isplitl [Hxf1]; · iexact Hxf1
  isplitl [HO]; · iexact HO
  isplitl [Hx2]; · iexact Hx2
  isplitl [Hsx2]; · iexact Hsx2
  isplitl [Hxb2]; · iexact Hxb2
  iexact Hxq2

theorem part6 (v2 : BitVec 32) {Q : _ → sProp 𝕄} :
    records m K ⊢ iprop(owing c (owesR c [2, 4, 5, 7, 6])
      -∗ xqPts c (px 2 c) (xq m c)
      -∗ (∃ f, gPts (F := F) (px 2 c) c f)
      -∗ dutyTok (ER (F := F)) (sendCell c 2) 0 0
      -∗ dutyTok (ER (F := F)) (recvCell (px 2 c) 2) 0 0
      -∗ xPts m c (px 6 c)
      -∗ (∃ f, xbPts (F := F) c 2 f)
      -∗ semVal ((c : Thread nD τ), .dma (xdS 2)) 0
      -∗ xFl m c 3 (px 4 c)
      -∗ (∃ f, xqPts (F := F) c (px 4 c) f)
      -∗ ((cred (tallyAt (sendCell c 2) () N)
          ∗ xFl m c 2 (px 6 c)
          ∗ owing c (owesR c [4, 5, 7, 6])
          ∗ xPts m c (px 4 c)
          ∗ semVal ((c : Thread nD τ), .dma (xdS 3)) 0
          ∗ (∃ f, xbPts (F := F) c 3 f)
          ∗ xqPts c (px 4 c) (xq m c)) -∗ Q ⟨⟩)
      -∗ WP c (k0_part6 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q) := by
  simp only [k0_part6_eq_skeleton]; unfold k0_part6_skel
  simp only [semSignalWord, semWaitWord, smemLoad, smemLoadElt, Prog.lift, Prog.bind_op, Prog.bind_ret, Prog.pure_eq_ret, wp_deviceId]
  iintro #HR HO Hxq2 Hgr2 Hts2 Htr2 Hx6 Hxb2 Hsx2 Hxf3 Hxq4 Hk
  iapply (step_send m K c 2 (by decide) [4, 5, 7, 6] (off1_eq 2 c) (off3_eq c) rfl rfl (dev10_eq c)) $$ HR HO Hxq2 Hgr2 Hts2 Htr2
  iintro ⟨HO, Hcs2⟩
  iapply (step_xStart m c (px 6 c) 2 (off1_eq 6 c) rfl rfl) $$ Hx6 Hxb2 Hsx2
  iintro Hxf2
  iapply (step_xWait m K c [4, 5, 7, 6] (px 4 c) 3 rfl rfl) $$ HR HO Hxf3
  iintro ⟨HO, Hxb3, Hx4, Hsx3⟩
  iapply (step_xLoad m c (px 4 c) 3 rfl) $$ Hxb3
  iintro Hxb3
  iapply (step_xqLoad c (px 4 c) (off2_eq 4 c)) $$ Hxq4
  iintro %u Hxq4
  iapply (step_xqStore m c (px 4 c) (off2_eq 4 c) (pay4_eq _)) $$ Hxq4
  iintro Hxq4
  iapply (wp_done c)
  iapply Hk
  isplitl [Hcs2]; · iexact Hcs2
  isplitl [Hxf2]; · iexact Hxf2
  isplitl [HO]; · iexact HO
  isplitl [Hx4]; · iexact Hx4
  isplitl [Hsx3]; · iexact Hsx3
  isplitl [Hxb3]; · iexact Hxb3
  iexact Hxq4

theorem part7 (v2 : BitVec 32) {Q : _ → sProp 𝕄} :
    records m K ⊢ iprop(owing c (owesR c [4, 5, 7, 6])
      -∗ xqPts c (px 4 c) (xq m c)
      -∗ (∃ f, gPts (F := F) (px 4 c) c f)
      -∗ dutyTok (ER (F := F)) (sendCell c 4) 0 0
      -∗ dutyTok (ER (F := F)) (recvCell (px 4 c) 4) 0 0
      -∗ xPts m c c
      -∗ (∃ f, xbPts (F := F) c 3 f)
      -∗ semVal ((c : Thread nD τ), .dma (xdS 3)) 0
      -∗ xFl m c 0 (px 5 c)
      -∗ (∃ f, xqPts (F := F) c (px 5 c) f)
      -∗ ((cred (tallyAt (sendCell c 4) () N)
          ∗ xFl m c 3 c
          ∗ owing c (owesR c [5, 7, 6])
          ∗ xPts m c (px 5 c)
          ∗ semVal ((c : Thread nD τ), .dma (xdS 0)) 0
          ∗ (∃ f, xbPts (F := F) c 0 f)
          ∗ xqPts c (px 5 c) (xq m c)) -∗ Q ⟨Scalar.xori v2 5#32, 1#32⟩)
      -∗ WP c (k0_part7 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q) := by
  simp only [k0_part7_eq_skeleton]; unfold k0_part7_skel
  simp only [semSignalWord, semWaitWord, smemLoad, smemLoadElt, Prog.lift, Prog.bind_op, Prog.bind_ret, Prog.pure_eq_ret, wp_deviceId]
  iintro #HR HO Hxq4 Hgr4 Hts4 Htr4 Hx0 Hxb3 Hsx3 Hxf0 Hxq5 Hk
  iapply (step_send m K c 4 (by decide) [5, 7, 6] (off1_eq 4 c) (off3_eq c) rfl rfl (dev11_eq c)) $$ HR HO Hxq4 Hgr4 Hts4 Htr4
  iintro ⟨HO, Hcs4⟩
  iapply (step_xStart m c c 3 (off4_eq c) rfl rfl) $$ Hx0 Hxb3 Hsx3
  iintro Hxf3
  iapply (step_xWait m K c [5, 7, 6] (px 5 c) 0 rfl rfl) $$ HR HO Hxf0
  iintro ⟨HO, Hxb0, Hx5, Hsx0⟩
  iapply (step_xLoad m c (px 5 c) 0 rfl) $$ Hxb0
  iintro Hxb0
  iapply (step_xqLoad c (px 5 c) (off2_eq 5 c)) $$ Hxq5
  iintro %u Hxq5
  iapply (step_xqStore m c (px 5 c) (off2_eq 5 c) (pay5_eq _)) $$ Hxq5
  iintro Hxq5
  iapply (wp_done c)
  iapply Hk
  isplitl [Hcs4]; · iexact Hcs4
  isplitl [Hxf3]; · iexact Hxf3
  isplitl [HO]; · iexact HO
  isplitl [Hx5]; · iexact Hx5
  isplitl [Hsx0]; · iexact Hsx0
  isplitl [Hxb0]; · iexact Hxb0
  iexact Hxq5

theorem part8 (v2 v191 c1 : BitVec 32) {Q : _ → sProp 𝕄} :
    records m K ⊢ iprop(owing c (owesR c [5, 7, 6])
      -∗ xqPts c (px 5 c) (xq m c)
      -∗ (∃ f, gPts (F := F) (px 5 c) c f)
      -∗ dutyTok (ER (F := F)) (sendCell c 5) 0 0
      -∗ dutyTok (ER (F := F)) (recvCell (px 5 c) 5) 0 0
      -∗ wPts m c c
      -∗ (∃ f, wbPts (F := F) c 0 f)
      -∗ semVal ((c : Thread nD τ), .dma (wdS 0)) 0
      -∗ xFl m c 1 (px 7 c)
      -∗ (∃ f, xqPts (F := F) c (px 7 c) f)
      -∗ ((cred (tallyAt (sendCell c 5) () N)
          ∗ wFl m c 0 c
          ∗ owing c (owesR c [7, 6])
          ∗ xPts m c (px 7 c)
          ∗ semVal ((c : Thread nD τ), .dma (xdS 1)) 0
          ∗ (∃ f, xbPts (F := F) c 1 f)
          ∗ xqPts c (px 7 c) (xq m c)) -∗ Q (Scalar.xori v2 7#32))
      -∗ WP c (k0_part8 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v191 c1) Q) := by
  simp only [k0_part8_eq_skeleton]; unfold k0_part8_skel
  simp only [semSignalWord, semWaitWord, smemLoad, smemLoadElt, Prog.lift, Prog.bind_op, Prog.bind_ret, Prog.pure_eq_ret, wp_deviceId]
  iintro #HR HO Hxq5 Hgr5 Hts5 Htr5 Hw0 Hwb0 Hsw0 Hxf1 Hxq7 Hk
  iapply (step_send m K c 5 (by decide) [7, 6] (off1_eq 5 c) (off3_eq c) rfl rfl (dev12_eq c)) $$ HR HO Hxq5 Hgr5 Hts5 Htr5
  iintro ⟨HO, Hcs5⟩
  iapply (step_wStart m c c 0 (off5_eq c) rfl rfl) $$ Hw0 Hwb0 Hsw0
  iintro Hwf0
  iapply (step_xWait m K c [7, 6] (px 7 c) 1 rfl rfl) $$ HR HO Hxf1
  iintro ⟨HO, Hxb1, Hx7, Hsx1⟩
  iapply (step_xLoad m c (px 7 c) 1 rfl) $$ Hxb1
  iintro Hxb1
  iapply (step_xqLoad c (px 7 c) (off2_eq 7 c)) $$ Hxq7
  iintro %u Hxq7
  iapply (step_xqStore m c (px 7 c) (off2_eq 7 c) (pay6_eq _)) $$ Hxq7
  iintro Hxq7
  iapply (wp_done c)
  iapply Hk
  isplitl [Hcs5]; · iexact Hcs5
  isplitl [Hwf0]; · iexact Hwf0
  isplitl [HO]; · iexact HO
  isplitl [Hx7]; · iexact Hx7
  isplitl [Hsx1]; · iexact Hsx1
  isplitl [Hxb1]; · iexact Hxb1
  iexact Hxq7

end Parts

end Cert.KernelIdeal.Exchange
-- ==== Proof.KernelIdeal.PartsB.lean ====
/-
What parts nine to fifteen of the program need and leave: the last transfers, and the first products.
-/
module

public import proofs.«01_k».proof.Proof.KernelIdeal.PartsA

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

section Parts

variable (K : Dev nD × CellIx → ℕ) (c : Dev nD)

theorem part9 (v2 v223 : BitVec 32) {Q : _ → sProp 𝕄} :
    records m K ⊢ iprop(owing c (owesR c [7, 6])
      -∗ xqPts c (px 7 c) (xq m c)
      -∗ (∃ f, gPts (F := F) (px 7 c) c f)
      -∗ dutyTok (ER (F := F)) (sendCell c 7) 0 0
      -∗ dutyTok (ER (F := F)) (recvCell (px 7 c) 7) 0 0
      -∗ wPts m c (px 1 c)
      -∗ (∃ f, wbPts (F := F) c 1 f)
      -∗ semVal ((c : Thread nD τ), .dma (wdS 1)) 0
      -∗ xFl m c 2 (px 6 c)
      -∗ (∃ f, xqPts (F := F) c (px 6 c) f)
      -∗ (∀ u, (cred (tallyAt (sendCell c 7) () N)
          ∗ wFl m c 1 (px 1 c)
          ∗ owing c (owesR c [6])
          ∗ xPts m c (px 6 c)
          ∗ semVal ((c : Thread nD τ), .dma (xdS 2)) 0
          ∗ (∃ f, xbPts (F := F) c 2 f)
          ∗ (∃ f, xqPts (F := F) c (px 6 c) f)) -∗ Q ⟨Scalar.xori v2 6#32, k0_pay7 (xVec m c (px 6 c)), u⟩)
      -∗ WP c (k0_part9 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v223) Q) := by
  simp only [k0_part9_eq_skeleton]; unfold k0_part9_skel
  simp only [semSignalWord, semWaitWord, smemLoad, smemLoadElt, Prog.lift, Prog.bind_op, Prog.bind_ret, Prog.pure_eq_ret, wp_deviceId]
  iintro #HR HO Hxq7 Hgr7 Hts7 Htr7 Hw1 Hwb1 Hsw1 Hxf2 Hxq6 Hk
  iapply (step_send m K c 7 (by decide) [6] (off1_eq 7 c) (off3_eq c) rfl rfl (dev13_eq c)) $$ HR HO Hxq7 Hgr7 Hts7 Htr7
  iintro ⟨HO, Hcs7⟩
  iapply (step_wStart m c (px 1 c) 1 (off6_eq 1 c) rfl rfl) $$ Hw1 Hwb1 Hsw1
  iintro Hwf1
  iapply (step_xWait m K c [6] (px 6 c) 2 rfl rfl) $$ HR HO Hxf2
  iintro ⟨HO, Hxb2, Hx6, Hsx2⟩
  iapply (step_xLoad m c (px 6 c) 2 rfl) $$ Hxb2
  iintro Hxb2
  iapply (step_xqLoad c (px 6 c) (off2_eq 6 c)) $$ Hxq6
  iintro %u Hxq6
  iapply (wp_done c)
  iapply Hk
  isplitl [Hcs7]; · iexact Hcs7
  isplitl [Hwf1]; · iexact Hwf1
  isplitl [HO]; · iexact HO
  isplitl [Hx6]; · iexact Hx6
  isplitl [Hsx2]; · iexact Hsx2
  isplitl [Hxb2]; · iexact Hxb2
  iexact Hxq6

theorem part10 (v2 v256 : BitVec 32) (v262 : Vec F S512x512 .fp8e5m2) {Q : _ → sProp 𝕄} :
    records m K ⊢ iprop((∃ f, xqPts (F := F) c (px 6 c) f)
      -∗ owing c (owesR c [6])
      -∗ (∃ f, gPts (F := F) (px 6 c) c f)
      -∗ dutyTok (ER (F := F)) (sendCell c 6) 0 0
      -∗ dutyTok (ER (F := F)) (recvCell (px 6 c) 6) 0 0
      -∗ wPts m c (px 3 c)
      -∗ (∃ f, wbPts (F := F) c 2 f)
      -∗ semVal ((c : Thread nD τ), .dma (wdS 2)) 0
      -∗ xFl m c 3 c
      -∗ ((cred (tallyAt (sendCell c 6) () N)
          ∗ wFl m c 2 (px 3 c)
          ∗ owing c (owesR c [])
          ∗ xPts m c c
          ∗ semVal ((c : Thread nD τ), .dma (xdS 3)) 0
          ∗ (∃ f, xbPts (F := F) c 3 f)) -∗ Q (k0_pay9 (xVec m c c)))
      -∗ WP c (k0_part10 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v256 (k0_pay7 (xVec m c (px 6 c))) v262) Q) := by
  simp only [k0_part10_eq_skeleton]; unfold k0_part10_skel
  simp only [semSignalWord, semWaitWord, smemLoad, smemLoadElt, Prog.lift, Prog.bind_op, Prog.bind_ret, Prog.pure_eq_ret, wp_deviceId]
  iintro #HR Hxq6 HO Hgr6 Hts6 Htr6 Hw3 Hwb2 Hsw2 Hxf3 Hk
  iapply (step_xqStore m c (px 6 c) (off2_eq 6 c) (pay8_eq _)) $$ Hxq6
  iintro Hxq6
  iapply (step_send m K c 6 (by decide) [] (off1_eq 6 c) (off3_eq c) rfl rfl (dev14_eq c)) $$ HR HO Hxq6 Hgr6 Hts6 Htr6
  iintro ⟨HO, Hcs6⟩
  iapply (step_wStart m c (px 3 c) 2 (off6_eq 3 c) rfl rfl) $$ Hw3 Hwb2 Hsw2
  iintro Hwf2
  iapply (step_xWait m K c [] c 3 rfl rfl) $$ HR HO Hxf3
  iintro ⟨HO, Hxb3, Hx0, Hsx3⟩
  iapply (step_xLoad m c c 3 rfl) $$ Hxb3
  iintro Hxb3
  iapply (wp_done c)
  iapply Hk
  isplitl [Hcs6]; · iexact Hcs6
  isplitl [Hwf2]; · iexact Hwf2
  isplitl [HO]; · iexact HO
  isplitl [Hx0]; · iexact Hx0
  isplitl [Hsx3]; · iexact Hsx3
  iexact Hxb3

theorem part11 (v2 : BitVec 32) (f0 f1 : S1.Idx → F .f32) {Q : _ → sProp 𝕄} :
    records m K ⊢ iprop((∃ f, gPts (F := F) c c f)
      -∗ wPts m c (px 2 c)
      -∗ (∃ f, wbPts (F := F) c 3 f)
      -∗ semVal ((c : Thread nD τ), .dma (wdS 3)) 0
      -∗ s0Pts c f0
      -∗ s1Pts c f1
      -∗ owing c (owesR c [])
      -∗ wFl m c 0 c
      -∗ ((wFl m c 3 (px 2 c)
          ∗ s0Pts c f0
          ∗ s1Pts c f1
          ∗ owing c (owesR c [])
          ∗ wPts m c c
          ∗ semVal ((c : Thread nD τ), .dma (wdS 0)) 0
          ∗ gPts c c (gat m c)
          ∗ (∃ f, wbPts (F := F) c 0 f)) -∗ Q ⟨k0_pay11 (word f0) (word f1), k0_pay13 (gVec m c c) (wVecL m c c), k0_pay14 (gVec m c c) (wVecR m c c), 4#32⟩)
      -∗ WP c (k0_part11 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (k0_pay9 (xVec m c c))) Q) := by
  simp only [k0_part11_eq_skeleton]; unfold k0_part11_skel
  simp only [semSignalWord, semWaitWord, smemLoad, smemLoadElt, Prog.lift, Prog.bind_op, Prog.bind_ret, Prog.pure_eq_ret, wp_deviceId]
  iintro #HR Hg0 Hw2 Hwb3 Hsw3 Hs0 Hs1 HO Hwf0 Hk
  iapply (step_gLoadOwn c (off7_eq c)) $$ Hg0
  iintro %u Hg0
  iapply (step_gStoreOwn m c (off7_eq c) rfl) $$ Hg0
  iintro Hg0
  iapply (step_wStart m c (px 2 c) 3 (off6_eq 2 c) rfl rfl) $$ Hw2 Hwb3 Hsw3
  iintro Hwf3
  iapply (step_word0 c f0) $$ Hs0
  iintro Hs0
  iapply (step_word1 c f1) $$ Hs1
  iintro Hs1
  iapply (step_wWait m K c [] c 0 rfl rfl) $$ HR HO Hwf0
  iintro ⟨HO, Hwb0, Hw0, Hsw0⟩
  iapply (step_gLoad m c c (off7_eq c)) $$ Hg0
  iintro Hg0
  iapply (step_wLoadL m c c 0 rfl) $$ Hwb0
  iintro Hwb0
  iapply (step_wLoadR m c c 0 rfl) $$ Hwb0
  iintro Hwb0
  iapply (wp_done c)
  iapply Hk
  isplitl [Hwf3]; · iexact Hwf3
  isplitl [Hs0]; · iexact Hs0
  isplitl [Hs1]; · iexact Hs1
  isplitl [HO]; · iexact HO
  isplitl [Hw0]; · iexact Hw0
  isplitl [Hsw0]; · iexact Hsw0
  isplitl [Hg0]; · iexact Hg0
  iexact Hwb0

theorem part12 (v2 c4 : BitVec 32) {Q : _ → sProp 𝕄} :
    records m K ⊢ iprop(wPts m c (px 4 c)
      -∗ (∃ f, wbPts (F := F) c 0 f)
      -∗ semVal ((c : Thread nD τ), .dma (wdS 0)) 0
      -∗ owing c (owesR c [])
      -∗ wFl m c 1 (px 1 c)
      -∗ cred (tallyAt (recvCell c 1) () N)
      -∗ atPos (ER (F := F)) (recvCell c 1) 0 ∅ 0
      -∗ ((wFl m c 0 (px 4 c)
          ∗ wbPts c 1 (wBlk m c (px 1 c))
          ∗ wPts m c (px 1 c)
          ∗ semVal ((c : Thread nD τ), .dma (wdS 1)) 0
          ∗ owing c (owesR c [])
          ∗ atPos (ER (F := F)) (recvCell c 1) 1 ∅ 0
          ∗ gPts c (px 1 c) (gat m c)) -∗ Q (k0_pay15 (gVec m c (px 1 c))))
      -∗ WP c (k0_part12 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 c4) Q) := by
  simp only [k0_part12_eq_skeleton]; unfold k0_part12_skel
  simp only [semSignalWord, semWaitWord, smemLoad, smemLoadElt, Prog.lift, Prog.bind_op, Prog.bind_ret, Prog.pure_eq_ret, wp_deviceId]
  iintro #HR Hw4 Hwb0 Hsw0 HO Hwf1 Hcr1 Har1 Hk
  iapply (step_wStart m c (px 4 c) 0 (off6_eq 4 c) rfl rfl) $$ Hw4 Hwb0 Hsw0
  iintro Hwf0
  iapply (step_wWait m K c [] (px 1 c) 1 rfl rfl) $$ HR HO Hwf1
  iintro ⟨HO, Hwb1, Hw1, Hsw1⟩
  iapply (step_recvWait m K c 1 (by decide) rfl) $$ HR HO Hcr1 Har1
  iintro ⟨HO, Har1, Hg1⟩
  iapply (step_gLoad m c (px 1 c) (off9_eq 1 c)) $$ Hg1
  iintro Hg1
  iapply (wp_done c)
  iapply Hk
  isplitl [Hwf0]; · iexact Hwf0
  isplitl [Hwb1]; · iexact Hwb1
  isplitl [Hw1]; · iexact Hw1
  isplitl [Hsw1]; · iexact Hsw1
  isplitl [HO]; · iexact HO
  isplitl [Har1]; · iexact Har1
  iexact Hg1

theorem part13 (v2 : BitVec 32) (v319 v323 : FVec F S512x1024 .f32) (v351 : FVec F S512x512 .bf16) {Q : _ → sProp 𝕄} :
    records m K ⊢ iprop(wbPts c 1 (wBlk m c (px 1 c))
      -∗ wPts m c (px 5 c)
      -∗ semVal ((c : Thread nD τ), .dma (wdS 1)) 0
      -∗ owing c (owesR c [])
      -∗ wFl m c 2 (px 3 c)
      -∗ ((wFl m c 1 (px 5 c)
          ∗ owing c (owesR c [])
          ∗ wbPts c 2 (wBlk m c (px 3 c))
          ∗ wPts m c (px 3 c)
          ∗ semVal ((c : Thread nD τ), .dma (wdS 2)) 0) -∗ Q ⟨k0_pay16 v319 v351 (wVecL m c (px 1 c)), k0_pay17 v323 v351 (wVecR m c (px 1 c))⟩)
      -∗ WP c (k0_part13 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v319 v323 v351) Q) := by
  simp only [k0_part13_eq_skeleton]; unfold k0_part13_skel
  simp only [semSignalWord, semWaitWord, smemLoad, smemLoadElt, Prog.lift, Prog.bind_op, Prog.bind_ret, Prog.pure_eq_ret, wp_deviceId]
  iintro #HR Hwb1 Hw5 Hsw1 HO Hwf2 Hk
  iapply (step_wLoadL m c (px 1 c) 1 rfl) $$ Hwb1
  iintro Hwb1
  iapply (step_wLoadR m c (px 1 c) 1 rfl) $$ Hwb1
  iintro Hwb1
  iapply (step_wStart m c (px 5 c) 1 (off6_eq 5 c) rfl rfl) $$ Hw5 Hwb1 Hsw1
  iintro Hwf1
  iapply (step_wWait m K c [] (px 3 c) 2 rfl rfl) $$ HR HO Hwf2
  iintro ⟨HO, Hwb2, Hw3, Hsw2⟩
  iapply (wp_done c)
  iapply Hk
  isplitl [Hwf1]; · iexact Hwf1
  isplitl [HO]; · iexact HO
  isplitl [Hwb2]; · iexact Hwb2
  isplitl [Hw3]; · iexact Hw3
  iexact Hsw2

theorem part14 (v2 : BitVec 32) (v356 v361 : FVec F S512x1024 .f32) {Q : _ → sProp 𝕄} :
    records m K ⊢ iprop(owing c (owesR c [])
      -∗ cred (tallyAt (recvCell c 3) () N)
      -∗ atPos (ER (F := F)) (recvCell c 3) 0 ∅ 0
      -∗ wbPts c 2 (wBlk m c (px 3 c))
      -∗ wPts m c (px 7 c)
      -∗ semVal ((c : Thread nD τ), .dma (wdS 2)) 0
      -∗ ((owing c (owesR c [])
          ∗ atPos (ER (F := F)) (recvCell c 3) 1 ∅ 0
          ∗ gPts c (px 3 c) (gat m c)
          ∗ wFl m c 2 (px 7 c)) -∗ Q ⟨k0_pay19 v356 (gVec m c (px 3 c)) (wVecL m c (px 3 c)), k0_pay20 v361 (gVec m c (px 3 c)) (wVecR m c (px 3 c))⟩)
      -∗ WP c (k0_part14 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v356 v361) Q) := by
  simp only [k0_part14_eq_skeleton]; unfold k0_part14_skel
  simp only [semSignalWord, semWaitWord, smemLoad, smemLoadElt, Prog.lift, Prog.bind_op, Prog.bind_ret, Prog.pure_eq_ret, wp_deviceId]
  iintro #HR HO Hcr3 Har3 Hwb2 Hw7 Hsw2 Hk
  iapply (step_recvWait m K c 3 (by decide) rfl) $$ HR HO Hcr3 Har3
  iintro ⟨HO, Har3, Hg3⟩
  iapply (step_gLoad m c (px 3 c) (off9_eq 3 c)) $$ Hg3
  iintro Hg3
  iapply (step_wLoadL m c (px 3 c) 2 rfl) $$ Hwb2
  iintro Hwb2
  iapply (step_wLoadR m c (px 3 c) 2 rfl) $$ Hwb2
  iintro Hwb2
  iapply (step_wStart m c (px 7 c) 2 (off6_eq 7 c) rfl rfl) $$ Hw7 Hwb2 Hsw2
  iintro Hwf2
  iapply (wp_done c)
  iapply Hk
  isplitl [HO]; · iexact HO
  isplitl [Har3]; · iexact Har3
  isplitl [Hg3]; · iexact Hg3
  iexact Hwf2

theorem part15 (v2 : BitVec 32) (v394 v399 : FVec F S512x1024 .f32) {Q : _ → sProp 𝕄} :
    records m K ⊢ iprop(owing c (owesR c [])
      -∗ wFl m c 3 (px 2 c)
      -∗ cred (tallyAt (recvCell c 2) () N)
      -∗ atPos (ER (F := F)) (recvCell c 2) 0 ∅ 0
      -∗ ((wPts m c (px 2 c)
          ∗ semVal ((c : Thread nD τ), .dma (wdS 3)) 0
          ∗ owing c (owesR c [])
          ∗ atPos (ER (F := F)) (recvCell c 2) 1 ∅ 0
          ∗ gPts c (px 2 c) (gat m c)
          ∗ (∃ f, wbPts (F := F) c 3 f)) -∗ Q ⟨k0_pay22 v394 (gVec m c (px 2 c)) (wVecL m c (px 2 c)), k0_pay23 v399 (gVec m c (px 2 c)) (wVecR m c (px 2 c))⟩)
      -∗ WP c (k0_part15 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v394 v399) Q) := by
  simp only [k0_part15_eq_skeleton]; unfold k0_part15_skel
  simp only [semSignalWord, semWaitWord, smemLoad, smemLoadElt, Prog.lift, Prog.bind_op, Prog.bind_ret, Prog.pure_eq_ret, wp_deviceId]
  iintro #HR HO Hwf3 Hcr2 Har2 Hk
  iapply (step_wWait m K c [] (px 2 c) 3 rfl rfl) $$ HR HO Hwf3
  iintro ⟨HO, Hwb3, Hw2, Hsw3⟩
  iapply (step_recvWait m K c 2 (by decide) rfl) $$ HR HO Hcr2 Har2
  iintro ⟨HO, Har2, Hg2⟩
  iapply (step_gLoad m c (px 2 c) (off9_eq 2 c)) $$ Hg2
  iintro Hg2
  iapply (step_wLoadL m c (px 2 c) 3 rfl) $$ Hwb3
  iintro Hwb3
  iapply (step_wLoadR m c (px 2 c) 3 rfl) $$ Hwb3
  iintro Hwb3
  iapply (wp_done c)
  iapply Hk
  isplitl [Hw2]; · iexact Hw2
  isplitl [Hsw3]; · iexact Hsw3
  isplitl [HO]; · iexact HO
  isplitl [Har2]; · iexact Har2
  isplitl [Hg2]; · iexact Hg2
  iexact Hwb3

end Parts

end Cert.KernelIdeal.Exchange
-- ==== Proof.KernelIdeal.PartsC.lean ====
/-
What the remaining parts of the program need and leave: the last products, the result, and the waits for the sends.
-/
module

public import proofs.«01_k».proof.Proof.KernelIdeal.PartsB

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

section Parts

variable (K : Dev nD × CellIx → ℕ) (c : Dev nD)

theorem part16 (v2 : BitVec 32) (v432 : FVec F S512x1024 .f32) {Q : _ → sProp 𝕄} :
    records m K ⊢ iprop(wPts m c (px 6 c)
      -∗ (∃ f, wbPts (F := F) c 3 f)
      -∗ semVal ((c : Thread nD τ), .dma (wdS 3)) 0
      -∗ owing c (owesR c [])
      -∗ wFl m c 0 (px 4 c)
      -∗ cred (tallyAt (recvCell c 4) () N)
      -∗ atPos (ER (F := F)) (recvCell c 4) 0 ∅ 0
      -∗ ((wFl m c 3 (px 6 c)
          ∗ wPts m c (px 4 c)
          ∗ semVal ((c : Thread nD τ), .dma (wdS 0)) 0
          ∗ owing c (owesR c [])
          ∗ atPos (ER (F := F)) (recvCell c 4) 1 ∅ 0
          ∗ gPts c (px 4 c) (gat m c)
          ∗ (∃ f, wbPts (F := F) c 0 f)) -∗ Q ⟨k0_pay24 (gVec m c (px 4 c)), k0_pay25 v432 (gVec m c (px 4 c)) (wVecL m c (px 4 c)), k0_pay26 (wVecR m c (px 4 c))⟩)
      -∗ WP c (k0_part16 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v432) Q) := by
  simp only [k0_part16_eq_skeleton]; unfold k0_part16_skel
  simp only [semSignalWord, semWaitWord, smemLoad, smemLoadElt, Prog.lift, Prog.bind_op, Prog.bind_ret, Prog.pure_eq_ret, wp_deviceId]
  iintro #HR Hw6 Hwb3 Hsw3 HO Hwf0 Hcr4 Har4 Hk
  iapply (step_wStart m c (px 6 c) 3 (off6_eq 6 c) rfl rfl) $$ Hw6 Hwb3 Hsw3
  iintro Hwf3
  iapply (step_wWait m K c [] (px 4 c) 0 rfl rfl) $$ HR HO Hwf0
  iintro ⟨HO, Hwb0, Hw4, Hsw0⟩
  iapply (step_recvWait m K c 4 (by decide) rfl) $$ HR HO Hcr4 Har4
  iintro ⟨HO, Har4, Hg4⟩
  iapply (step_gLoad m c (px 4 c) (off9_eq 4 c)) $$ Hg4
  iintro Hg4
  iapply (step_wLoadL m c (px 4 c) 0 rfl) $$ Hwb0
  iintro Hwb0
  iapply (step_wLoadR m c (px 4 c) 0 rfl) $$ Hwb0
  iintro Hwb0
  iapply (wp_done c)
  iapply Hk
  isplitl [Hwf3]; · iexact Hwf3
  isplitl [Hw4]; · iexact Hw4
  isplitl [Hsw0]; · iexact Hsw0
  isplitl [HO]; · iexact HO
  isplitl [Har4]; · iexact Har4
  isplitl [Hg4]; · iexact Hg4
  iexact Hwb0

theorem part17 (v2 : BitVec 32) (v437 : FVec F S512x1024 .f32) (v465 : FVec F S512x512 .bf16) (v470 : FVec F S512x1024 .f32) (v473 : FVec F S512x1024 .bf16) {Q : _ → sProp 𝕄} :
    records m K ⊢ iprop(owing c (owesR c [])
      -∗ wFl m c 1 (px 5 c)
      -∗ cred (tallyAt (recvCell c 5) () N)
      -∗ atPos (ER (F := F)) (recvCell c 5) 0 ∅ 0
      -∗ ((wPts m c (px 5 c)
          ∗ semVal ((c : Thread nD τ), .dma (wdS 1)) 0
          ∗ owing c (owesR c [])
          ∗ atPos (ER (F := F)) (recvCell c 5) 1 ∅ 0
          ∗ gPts c (px 5 c) (gat m c)
          ∗ (∃ f, wbPts (F := F) c 1 f)) -∗ Q ⟨k0_pay27 v437 v465 v473, k0_pay28 (gVec m c (px 5 c)), k0_pay29 v470 (gVec m c (px 5 c)) (wVecL m c (px 5 c)), k0_pay30 (wVecR m c (px 5 c))⟩)
      -∗ WP c (k0_part17 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v437 v465 v470 v473) Q) := by
  simp only [k0_part17_eq_skeleton]; unfold k0_part17_skel
  simp only [semSignalWord, semWaitWord, smemLoad, smemLoadElt, Prog.lift, Prog.bind_op, Prog.bind_ret, Prog.pure_eq_ret, wp_deviceId]
  iintro #HR HO Hwf1 Hcr5 Har5 Hk
  iapply (step_wWait m K c [] (px 5 c) 1 rfl rfl) $$ HR HO Hwf1
  iintro ⟨HO, Hwb1, Hw5, Hsw1⟩
  iapply (step_recvWait m K c 5 (by decide) rfl) $$ HR HO Hcr5 Har5
  iintro ⟨HO, Har5, Hg5⟩
  iapply (step_gLoad m c (px 5 c) (off9_eq 5 c)) $$ Hg5
  iintro Hg5
  iapply (step_wLoadL m c (px 5 c) 1 rfl) $$ Hwb1
  iintro Hwb1
  iapply (step_wLoadR m c (px 5 c) 1 rfl) $$ Hwb1
  iintro Hwb1
  iapply (wp_done c)
  iapply Hk
  isplitl [Hw5]; · iexact Hw5
  isplitl [Hsw1]; · iexact Hsw1
  isplitl [HO]; · iexact HO
  isplitl [Har5]; · iexact Har5
  isplitl [Hg5]; · iexact Hg5
  iexact Hwb1

theorem part18 (v2 : BitVec 32) (v475 : FVec F S512x1024 .f32) (v496 : FVec F S512x512 .bf16) (v501 v503 : FVec F S512x1024 .f32) {Q : _ → sProp 𝕄} :
    records m K ⊢ iprop(owing c (owesR c [])
      -∗ wFl m c 2 (px 7 c)
      -∗ cred (tallyAt (recvCell c 7) () N)
      -∗ atPos (ER (F := F)) (recvCell c 7) 0 ∅ 0
      -∗ ((wPts m c (px 7 c)
          ∗ semVal ((c : Thread nD τ), .dma (wdS 2)) 0
          ∗ owing c (owesR c [])
          ∗ atPos (ER (F := F)) (recvCell c 7) 1 ∅ 0
          ∗ gPts c (px 7 c) (gat m c)
          ∗ (∃ f, wbPts (F := F) c 2 f)) -∗ Q ⟨k0_pay31 v475 v496 v503, k0_pay32 (gVec m c (px 7 c)), k0_pay33 v501 (gVec m c (px 7 c)) (wVecL m c (px 7 c)), (wVecR m c (px 7 c))⟩)
      -∗ WP c (k0_part18 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v475 v496 v501 v503) Q) := by
  simp only [k0_part18_eq_skeleton]; unfold k0_part18_skel
  simp only [semSignalWord, semWaitWord, smemLoad, smemLoadElt, Prog.lift, Prog.bind_op, Prog.bind_ret, Prog.pure_eq_ret, wp_deviceId]
  iintro #HR HO Hwf2 Hcr7 Har7 Hk
  iapply (step_wWait m K c [] (px 7 c) 2 rfl rfl) $$ HR HO Hwf2
  iintro ⟨HO, Hwb2, Hw7, Hsw2⟩
  iapply (step_recvWait m K c 7 (by decide) rfl) $$ HR HO Hcr7 Har7
  iintro ⟨HO, Har7, Hg7⟩
  iapply (step_gLoad m c (px 7 c) (off9_eq 7 c)) $$ Hg7
  iintro Hg7
  iapply (step_wLoadL m c (px 7 c) 2 rfl) $$ Hwb2
  iintro Hwb2
  iapply (step_wLoadR m c (px 7 c) 2 rfl) $$ Hwb2
  iintro Hwb2
  iapply (wp_done c)
  iapply Hk
  isplitl [Hw7]; · iexact Hw7
  isplitl [Hsw2]; · iexact Hsw2
  isplitl [HO]; · iexact HO
  isplitl [Har7]; · iexact Har7
  isplitl [Hg7]; · iexact Hg7
  iexact Hwb2

theorem part19 (v2 : BitVec 32) (v305 : F .f32) (v506 : FVec F S512x1024 .f32) (v527 : FVec F S512x512 .bf16) (v532 : FVec F S512x1024 .f32) (v533 : Vec F S1x512x1024 .f32) {Q : _ → sProp 𝕄} :
    records m K ⊢ iprop(owing c (owesR c [])
      -∗ wFl m c 3 (px 6 c)
      -∗ cred (tallyAt (recvCell c 6) () N)
      -∗ atPos (ER (F := F)) (recvCell c 6) 0 ∅ 0
      -∗ ((wPts m c (px 6 c)
          ∗ semVal ((c : Thread nD τ), .dma (wdS 3)) 0
          ∗ owing c (owesR c [])
          ∗ atPos (ER (F := F)) (recvCell c 6) 1 ∅ 0
          ∗ gPts c (px 6 c) (gat m c)
          ∗ wbPts c 3 (wBlk m c (px 6 c))) -∗ Q ⟨k0_pay34 v506 v527 v533, k0_pay35 (gVec m c (px 6 c)), k0_pay36 v305 v532 (gVec m c (px 6 c)) (wVecL m c (px 6 c)), Scalar.ofBits .f32 0xC2700000#32⟩)
      -∗ WP c (k0_part19 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v305 v506 v527 v532 v533) Q) := by
  simp only [k0_part19_eq_skeleton]; unfold k0_part19_skel
  simp only [semSignalWord, semWaitWord, smemLoad, smemLoadElt, Prog.lift, Prog.bind_op, Prog.bind_ret, Prog.pure_eq_ret, wp_deviceId]
  iintro #HR HO Hwf3 Hcr6 Har6 Hk
  iapply (step_wWait m K c [] (px 6 c) 3 rfl rfl) $$ HR HO Hwf3
  iintro ⟨HO, Hwb3, Hw6, Hsw3⟩
  iapply (step_recvWait m K c 6 (by decide) rfl) $$ HR HO Hcr6 Har6
  iintro ⟨HO, Har6, Hg6⟩
  iapply (step_gLoad m c (px 6 c) (off9_eq 6 c)) $$ Hg6
  iintro Hg6
  iapply (step_wLoadL m c (px 6 c) 3 rfl) $$ Hwb3
  iintro Hwb3
  iapply (wp_done c)
  iapply Hk
  isplitl [Hw6]; · iexact Hw6
  isplitl [Hsw3]; · iexact Hsw3
  isplitl [HO]; · iexact HO
  isplitl [Har6]; · iexact Har6
  isplitl [Hg6]; · iexact Hg6
  iexact Hwb3

theorem part20 (v305 : F .f32) (v537 : FVec F S512x1024 .f32) (v558 : FVec F S512x512 .bf16) (v565 : FVec F S512x1024 .f32) (cst : F .f32) (f : S512x2048.Idx → F .f32) {Q : _ → sProp 𝕄} :
    records m K ⊢ iprop(oPts c f
      -∗ wbPts c 3 (wBlk m c (px 6 c))
      -∗ (((∃ f, wbPts (F := F) c 3 f)
          ∗ oPts c (put rR (put rL f (k0_pay37 v565 cst)) (k0_pay38 v305 v537 v558 (wVecR m c (px 6 c))))) -∗ Q ⟨⟩)
      -∗ WP c (k0_part20 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v305 v537 v558 v565 cst) Q) := by
  simp only [k0_part20_eq_skeleton]; unfold k0_part20_skel
  simp only [semSignalWord, semWaitWord, smemLoad, smemLoadElt, Prog.lift, Prog.bind_op, Prog.bind_ret, Prog.pure_eq_ret, wp_deviceId]
  iintro #HR Ho Hwb3 Hk
  iapply (step_oLoad c f) $$ Ho
  iintro %u Ho
  iapply (step_oStore c f) $$ Ho
  iintro Ho
  iapply (step_wLoadR m c (px 6 c) 3 rfl) $$ Hwb3
  iintro Hwb3
  iapply (step_oLoad c (put rL f (k0_pay37 v565 cst))) $$ Ho
  iintro %u Ho
  iapply (step_oStore c (put rL f (k0_pay37 v565 cst))) $$ Ho
  iintro Ho
  iapply (wp_done c)
  iapply Hk
  isplitl [Hwb3]; · iexact Hwb3
  iexact Ho

theorem part21 {Q : _ → sProp 𝕄} :
    records m K ⊢ iprop(owing c (owesR c [])
      -∗ cred (tallyAt (sendCell c 1) () N)
      -∗ atPos (ER (F := F)) (sendCell c 1) 0 ∅ 0
      -∗ cred (tallyAt (sendCell c 3) () N)
      -∗ atPos (ER (F := F)) (sendCell c 3) 0 ∅ 0
      -∗ cred (tallyAt (sendCell c 2) () N)
      -∗ atPos (ER (F := F)) (sendCell c 2) 0 ∅ 0
      -∗ cred (tallyAt (sendCell c 4) () N)
      -∗ atPos (ER (F := F)) (sendCell c 4) 0 ∅ 0
      -∗ cred (tallyAt (sendCell c 5) () N)
      -∗ atPos (ER (F := F)) (sendCell c 5) 0 ∅ 0
      -∗ ((atPos (ER (F := F)) (sendCell c 1) 1 ∅ 0
          ∗ xqPts c (px 1 c) (xq m c)
          ∗ atPos (ER (F := F)) (sendCell c 3) 1 ∅ 0
          ∗ xqPts c (px 3 c) (xq m c)
          ∗ atPos (ER (F := F)) (sendCell c 2) 1 ∅ 0
          ∗ xqPts c (px 2 c) (xq m c)
          ∗ atPos (ER (F := F)) (sendCell c 4) 1 ∅ 0
          ∗ xqPts c (px 4 c) (xq m c)
          ∗ owing c (owesR c [])
          ∗ atPos (ER (F := F)) (sendCell c 5) 1 ∅ 0
          ∗ xqPts c (px 5 c) (xq m c)) -∗ Q ⟨⟩)
      -∗ WP c (k0_part21 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c) Q) := by
  simp only [k0_part21_eq_skeleton]; unfold k0_part21_skel
  simp only [semSignalWord, semWaitWord, smemLoad, smemLoadElt, Prog.lift, Prog.bind_op, Prog.bind_ret, Prog.pure_eq_ret, wp_deviceId]
  iintro #HR HO Hcs1 Has1 Hcs3 Has3 Hcs2 Has2 Hcs4 Has4 Hcs5 Has5 Hk
  iapply (step_sendWait m K c 1 (by decide) rfl) $$ HR HO Hcs1 Has1
  iintro ⟨HO, Has1, Hxq1⟩
  iapply (step_sendWait m K c 3 (by decide) rfl) $$ HR HO Hcs3 Has3
  iintro ⟨HO, Has3, Hxq3⟩
  iapply (step_sendWait m K c 2 (by decide) rfl) $$ HR HO Hcs2 Has2
  iintro ⟨HO, Has2, Hxq2⟩
  iapply (step_sendWait m K c 4 (by decide) rfl) $$ HR HO Hcs4 Has4
  iintro ⟨HO, Has4, Hxq4⟩
  iapply (step_sendWait m K c 5 (by decide) rfl) $$ HR HO Hcs5 Has5
  iintro ⟨HO, Has5, Hxq5⟩
  iapply (wp_done c)
  iapply Hk
  isplitl [Has1]; · iexact Has1
  isplitl [Hxq1]; · iexact Hxq1
  isplitl [Has3]; · iexact Has3
  isplitl [Hxq3]; · iexact Hxq3
  isplitl [Has2]; · iexact Has2
  isplitl [Hxq2]; · iexact Hxq2
  isplitl [Has4]; · iexact Has4
  isplitl [Hxq4]; · iexact Hxq4
  isplitl [HO]; · iexact HO
  isplitl [Has5]; · iexact Has5
  iexact Hxq5

end Parts

end Cert.KernelIdeal.Exchange
-- ==== Proof.KernelIdeal.Body.lean ====
/-
The whole program of one device: what it needs, what it leaves, and what its result holds.
-/
module

public import proofs.«01_k».proof.Proof.KernelIdeal.PartsC

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-- The product of the eight gathered blocks with the eight blocks of `w`, block by block in the order of the program, scaled and passed
    through the final function: the left half of the columns, -/
def outL (s : F .f32) (g : Fin 8 → Vec F S1x512x512 .fp8e5m2) (w : Fin 8 → Vec F S1x512x1024 .f32) : FVec F S512x1024 .f32 :=
  k0_pay37 (k0_pay36 s (k0_pay33 (k0_pay29 (k0_pay25 (k0_pay22 (k0_pay19 (k0_pay16 (k0_pay13 (g 0) (w 0)) (k0_pay15 (g 1)) (w 1))
    (g 3) (w 3)) (g 2) (w 2)) (g 4) (w 4)) (g 5) (w 5)) (g 7) (w 7)) (g 6) (w 6)) (Scalar.ofBits .f32 0xC2700000#32)
/-- and the right half. -/
def outR (s : F .f32) (g : Fin 8 → Vec F S1x512x512 .fp8e5m2) (w : Fin 8 → Vec F S1x512x1024 .f32) : FVec F S512x1024 .f32 :=
  k0_pay38 s (k0_pay34 (k0_pay31 (k0_pay27 (k0_pay23 (k0_pay20 (k0_pay17 (k0_pay14 (g 0) (w 0)) (k0_pay15 (g 1)) (w 1))
    (g 3) (w 3)) (g 2) (w 2)) (k0_pay24 (g 4)) (k0_pay26 (w 4))) (k0_pay28 (g 5)) (k0_pay30 (w 5))) (k0_pay32 (g 7)) (w 7)) (k0_pay35 (g 6)) (w 6)

/-- What device `c`'s result holds after the run. -/
def outAt (c : Dev nD) (f0 f1 : S1.Idx → F .f32) : S512x2048.Idx → F .f32 :=
  halves (outL (k0_pay11 (word f0) (word f1)) (fun k => gVec m c (px k c)) (fun k => wVecL m c (px k c)))
    (outR (k0_pay11 (word f0) (word f1)) (fun k => gVec m c (px k c)) (fun k => wVecR m c (px k c)))

theorem wp_then (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  simp only [WP, wp_bind]; exact BI.Entails.refl _

section Body

variable (K : Dev nD × CellIx → ℕ) (c : Dev nD)

/-- A program that has ended, up to an update of the ghost state. -/
theorem wp_done_upd {α : Type} {a : α} {Q : α → sProp 𝕄} : iprop(|={Set.univ}=> Q a) ⊢ WP c (.ret a) Q := by
  simp only [WP, wp_ret]; exact BI.Entails.refl _

/-- A cell past its last round gives its counter, at zero, back. -/
theorem close_bar : records m K ⊢ iprop(atPos (ER (F := F)) (barCell c) 1 ∅ 0 -∗ |={Set.univ}=> semVal (barCell c) 0) := by
  iintro #HR Hat
  ihave #HI := (records_cell m K (c, none)) $$ HR
  icases HI with ⟨#HI, -⟩
  imod (Rounds.cell_close ER (ringRd m) (Set.mem_univ (K (c, none))) (fun h => h) (R := 1) (duties_later m (barCell c))) $$ [Hat] with Hz
  · isplitr; · iexact HI
    iexact Hat
  imodintro; iexact Hz
theorem close_send (k : Fin 8) : records m K ⊢ iprop(atPos (ER (F := F)) (sendCell c k) 1 ∅ 0 -∗ |={Set.univ}=> semVal (sendCell c k) 0) := by
  iintro #HR Hat
  ihave #HI := (records_cell m K (c, some (false, k))) $$ HR
  icases HI with ⟨#HI, -⟩
  imod (Rounds.cell_close ER (ringRd m) (Set.mem_univ (K (c, some (false, k)))) (fun h => h) (R := 1) (duties_later m (sendCell c k))) $$ [Hat] with Hz
  · isplitr; · iexact HI
    iexact Hat
  imodintro; iexact Hz
theorem close_recv (k : Fin 8) : records m K ⊢ iprop(atPos (ER (F := F)) (recvCell c k) 1 ∅ 0 -∗ |={Set.univ}=> semVal (recvCell c k) 0) := by
  iintro #HR Hat
  ihave #HI := (records_cell m K (c, some (true, k))) $$ HR
  icases HI with ⟨#HI, -⟩
  imod (Rounds.cell_close ER (ringRd m) (Set.mem_univ (K (c, some (true, k)))) (fun h => h) (R := 1) (duties_later m (recvCell c k))) $$ [Hat] with Hz
  · isplitr; · iexact HI
    iexact Hat
  imodintro; iexact Hz
/-- The cells of the mask 0 have no round. -/
theorem close_send0 : records m K ⊢ iprop(atPos (ER (F := F)) (sendCell c 0) 0 ∅ 0 -∗ |={Set.univ}=> semVal (sendCell c 0) 0) := by
  iintro #HR Hat
  ihave #HI := (records_cell m K (c, some (false, 0))) $$ HR
  icases HI with ⟨#HI, -⟩
  imod (Rounds.cell_close ER (ringRd m) (Set.mem_univ (K (c, some (false, 0)))) (fun h => h) (R := 0) (fun r _ => duties_send0 m c r)) $$ [Hat] with Hz
  · isplitr; · iexact HI
    iexact Hat
  imodintro; iexact Hz
theorem close_recv0 : records m K ⊢ iprop(atPos (ER (F := F)) (recvCell c 0) 0 ∅ 0 -∗ |={Set.univ}=> semVal (recvCell c 0) 0) := by
  iintro #HR Hat
  ihave #HI := (records_cell m K (c, some (true, 0))) $$ HR
  icases HI with ⟨#HI, -⟩
  imod (Rounds.cell_close ER (ringRd m) (Set.mem_univ (K (c, some (true, 0)))) (fun h => h) (R := 0) (fun r _ => duties_recv0 m c r)) $$ [Hat] with Hz
  · isplitr; · iexact HI
    iexact Hat
  imodintro; iexact Hz

theorem out_both (f0 f1 : S1.Idx → F .f32) (f : S512x2048.Idx → F .f32) :
    put rR (put rL f (k0_pay37 (k0_pay36 (k0_pay11 (word f0) (word f1)) (k0_pay33 (k0_pay29 (k0_pay25 (k0_pay22 (k0_pay19 (k0_pay16 (k0_pay13 (gVec m c c) (wVecL m c c)) (k0_pay15 (gVec m c (px 1 c))) (wVecL m c (px 1 c))) (gVec m c (px 3 c)) (wVecL m c (px 3 c))) (gVec m c (px 2 c)) (wVecL m c (px 2 c))) (gVec m c (px 4 c)) (wVecL m c (px 4 c))) (gVec m c (px 5 c)) (wVecL m c (px 5 c))) (gVec m c (px 7 c)) (wVecL m c (px 7 c))) (gVec m c (px 6 c)) (wVecL m c (px 6 c))) (Scalar.ofBits .f32 0xC2700000#32)))
      (k0_pay38 (k0_pay11 (word f0) (word f1)) (k0_pay34 (k0_pay31 (k0_pay27 (k0_pay23 (k0_pay20 (k0_pay17 (k0_pay14 (gVec m c c) (wVecR m c c)) (k0_pay15 (gVec m c (px 1 c))) (wVecR m c (px 1 c))) (gVec m c (px 3 c)) (wVecR m c (px 3 c))) (gVec m c (px 2 c)) (wVecR m c (px 2 c))) (k0_pay24 (gVec m c (px 4 c))) (k0_pay26 (wVecR m c (px 4 c)))) (k0_pay28 (gVec m c (px 5 c))) (k0_pay30 (wVecR m c (px 5 c)))) (k0_pay32 (gVec m c (px 7 c))) (wVecR m c (px 7 c))) (k0_pay35 (gVec m c (px 6 c))) (wVecR m c (px 6 c))) = outAt m c f0 f1 := by
  rw [put_both]; unfold outAt outL outR; simp only [px_zero]

set_option maxHeartbeats 4000000 in
set_option maxRecDepth 16000 in
/-- The whole program, from every piece it needs to every piece it leaves. -/
theorem body_flat (f0 f1 : S1.Idx → F .f32) (f : S512x2048.Idx → F .f32) {Q : PUnit.{1} → sProp 𝕄} :
    records m K ⊢ iprop(xPts m c c
      -∗ xPts m c (px 1 c)
      -∗ xPts m c (px 2 c)
      -∗ xPts m c (px 3 c)
      -∗ xPts m c (px 4 c)
      -∗ xPts m c (px 5 c)
      -∗ xPts m c (px 6 c)
      -∗ xPts m c (px 7 c)
      -∗ wPts m c c
      -∗ wPts m c (px 1 c)
      -∗ wPts m c (px 2 c)
      -∗ wPts m c (px 3 c)
      -∗ wPts m c (px 4 c)
      -∗ wPts m c (px 5 c)
      -∗ wPts m c (px 6 c)
      -∗ wPts m c (px 7 c)
      -∗ (∃ f, xbPts (F := F) c 0 f)
      -∗ (∃ f, xbPts (F := F) c 1 f)
      -∗ (∃ f, xbPts (F := F) c 2 f)
      -∗ (∃ f, xbPts (F := F) c 3 f)
      -∗ (∃ f, wbPts (F := F) c 0 f)
      -∗ (∃ f, wbPts (F := F) c 1 f)
      -∗ (∃ f, wbPts (F := F) c 2 f)
      -∗ (∃ f, wbPts (F := F) c 3 f)
      -∗ (∃ f, xqPts (F := F) c (px 1 c) f)
      -∗ (∃ f, xqPts (F := F) c (px 2 c) f)
      -∗ (∃ f, xqPts (F := F) c (px 3 c) f)
      -∗ (∃ f, xqPts (F := F) c (px 4 c) f)
      -∗ (∃ f, xqPts (F := F) c (px 5 c) f)
      -∗ (∃ f, xqPts (F := F) c (px 6 c) f)
      -∗ (∃ f, xqPts (F := F) c (px 7 c) f)
      -∗ (∃ f, gPts (F := F) c c f)
      -∗ (∃ f, gPts (F := F) c (px 1 c) f)
      -∗ (∃ f, gPts (F := F) c (px 2 c) f)
      -∗ (∃ f, gPts (F := F) c (px 3 c) f)
      -∗ (∃ f, gPts (F := F) c (px 4 c) f)
      -∗ (∃ f, gPts (F := F) c (px 5 c) f)
      -∗ (∃ f, gPts (F := F) c (px 6 c) f)
      -∗ (∃ f, gPts (F := F) c (px 7 c) f)
      -∗ semVal ((c : Thread nD τ), .dma (xdS 0)) 0
      -∗ semVal ((c : Thread nD τ), .dma (xdS 1)) 0
      -∗ semVal ((c : Thread nD τ), .dma (xdS 2)) 0
      -∗ semVal ((c : Thread nD τ), .dma (xdS 3)) 0
      -∗ semVal ((c : Thread nD τ), .dma (wdS 0)) 0
      -∗ semVal ((c : Thread nD τ), .dma (wdS 1)) 0
      -∗ semVal ((c : Thread nD τ), .dma (wdS 2)) 0
      -∗ semVal ((c : Thread nD τ), .dma (wdS 3)) 0
      -∗ atPos (ER (F := F)) (barCell c) 0 ∅ 0
      -∗ atPos (ER (F := F)) (recvCell c 0) 0 ∅ 0
      -∗ atPos (ER (F := F)) (recvCell c 1) 0 ∅ 0
      -∗ atPos (ER (F := F)) (recvCell c 2) 0 ∅ 0
      -∗ atPos (ER (F := F)) (recvCell c 3) 0 ∅ 0
      -∗ atPos (ER (F := F)) (recvCell c 4) 0 ∅ 0
      -∗ atPos (ER (F := F)) (recvCell c 5) 0 ∅ 0
      -∗ atPos (ER (F := F)) (recvCell c 6) 0 ∅ 0
      -∗ atPos (ER (F := F)) (recvCell c 7) 0 ∅ 0
      -∗ atPos (ER (F := F)) (sendCell c 0) 0 ∅ 0
      -∗ atPos (ER (F := F)) (sendCell c 1) 0 ∅ 0
      -∗ atPos (ER (F := F)) (sendCell c 2) 0 ∅ 0
      -∗ atPos (ER (F := F)) (sendCell c 3) 0 ∅ 0
      -∗ atPos (ER (F := F)) (sendCell c 4) 0 ∅ 0
      -∗ atPos (ER (F := F)) (sendCell c 5) 0 ∅ 0
      -∗ atPos (ER (F := F)) (sendCell c 6) 0 ∅ 0
      -∗ atPos (ER (F := F)) (sendCell c 7) 0 ∅ 0
      -∗ cred (tallyAt (barCell c) () 7)
      -∗ cred (tallyAt (recvCell c 1) () N)
      -∗ cred (tallyAt (recvCell c 2) () N)
      -∗ cred (tallyAt (recvCell c 3) () N)
      -∗ cred (tallyAt (recvCell c 4) () N)
      -∗ cred (tallyAt (recvCell c 5) () N)
      -∗ cred (tallyAt (recvCell c 6) () N)
      -∗ cred (tallyAt (recvCell c 7) () N)
      -∗ dutyTok (ER (F := F)) (barCell (px 1 c)) 0 1
      -∗ dutyTok (ER (F := F)) (barCell (px 2 c)) 0 2
      -∗ dutyTok (ER (F := F)) (barCell (px 3 c)) 0 3
      -∗ dutyTok (ER (F := F)) (barCell (px 4 c)) 0 4
      -∗ dutyTok (ER (F := F)) (barCell (px 5 c)) 0 5
      -∗ dutyTok (ER (F := F)) (barCell (px 6 c)) 0 6
      -∗ dutyTok (ER (F := F)) (barCell (px 7 c)) 0 7
      -∗ dutyTok (ER (F := F)) (sendCell c 1) 0 0
      -∗ dutyTok (ER (F := F)) (sendCell c 2) 0 0
      -∗ dutyTok (ER (F := F)) (sendCell c 3) 0 0
      -∗ dutyTok (ER (F := F)) (sendCell c 4) 0 0
      -∗ dutyTok (ER (F := F)) (sendCell c 5) 0 0
      -∗ dutyTok (ER (F := F)) (sendCell c 6) 0 0
      -∗ dutyTok (ER (F := F)) (sendCell c 7) 0 0
      -∗ dutyTok (ER (F := F)) (recvCell (px 1 c) 1) 0 0
      -∗ dutyTok (ER (F := F)) (recvCell (px 2 c) 2) 0 0
      -∗ dutyTok (ER (F := F)) (recvCell (px 3 c) 3) 0 0
      -∗ dutyTok (ER (F := F)) (recvCell (px 4 c) 4) 0 0
      -∗ dutyTok (ER (F := F)) (recvCell (px 5 c) 5) 0 0
      -∗ dutyTok (ER (F := F)) (recvCell (px 6 c) 6) 0 0
      -∗ dutyTok (ER (F := F)) (recvCell (px 7 c) 7) 0 0
      -∗ s0Pts c f0
      -∗ s1Pts c f1
      -∗ oPts c f
      -∗ owing c (owesB c [1, 3, 2, 4, 5, 7, 6])
      -∗ ((xPts m c c
          ∗ xPts m c (px 1 c)
          ∗ xPts m c (px 2 c)
          ∗ xPts m c (px 3 c)
          ∗ xPts m c (px 4 c)
          ∗ xPts m c (px 5 c)
          ∗ xPts m c (px 6 c)
          ∗ xPts m c (px 7 c)
          ∗ wPts m c c
          ∗ wPts m c (px 1 c)
          ∗ wPts m c (px 2 c)
          ∗ wPts m c (px 3 c)
          ∗ wPts m c (px 4 c)
          ∗ wPts m c (px 5 c)
          ∗ wPts m c (px 6 c)
          ∗ wPts m c (px 7 c)
          ∗ (∃ f, xbPts (F := F) c 0 f)
          ∗ (∃ f, xbPts (F := F) c 1 f)
          ∗ (∃ f, xbPts (F := F) c 2 f)
          ∗ (∃ f, xbPts (F := F) c 3 f)
          ∗ (∃ f, wbPts (F := F) c 0 f)
          ∗ (∃ f, wbPts (F := F) c 1 f)
          ∗ (∃ f, wbPts (F := F) c 2 f)
          ∗ (∃ f, wbPts (F := F) c 3 f)
          ∗ xqPts c (px 1 c) (xq m c)
          ∗ xqPts c (px 2 c) (xq m c)
          ∗ xqPts c (px 3 c) (xq m c)
          ∗ xqPts c (px 4 c) (xq m c)
          ∗ xqPts c (px 5 c) (xq m c)
          ∗ xqPts c (px 6 c) (xq m c)
          ∗ xqPts c (px 7 c) (xq m c)
          ∗ gPts c c (gat m c)
          ∗ gPts c (px 1 c) (gat m c)
          ∗ gPts c (px 2 c) (gat m c)
          ∗ gPts c (px 3 c) (gat m c)
          ∗ gPts c (px 4 c) (gat m c)
          ∗ gPts c (px 5 c) (gat m c)
          ∗ gPts c (px 6 c) (gat m c)
          ∗ gPts c (px 7 c) (gat m c)
          ∗ semVal ((c : Thread nD τ), .dma (xdS 0)) 0
          ∗ semVal ((c : Thread nD τ), .dma (xdS 1)) 0
          ∗ semVal ((c : Thread nD τ), .dma (xdS 2)) 0
          ∗ semVal ((c : Thread nD τ), .dma (xdS 3)) 0
          ∗ semVal ((c : Thread nD τ), .dma (wdS 0)) 0
          ∗ semVal ((c : Thread nD τ), .dma (wdS 1)) 0
          ∗ semVal ((c : Thread nD τ), .dma (wdS 2)) 0
          ∗ semVal ((c : Thread nD τ), .dma (wdS 3)) 0
          ∗ semVal (barCell c) 0
          ∗ semVal (recvCell c 0) 0
          ∗ semVal (recvCell c 1) 0
          ∗ semVal (recvCell c 2) 0
          ∗ semVal (recvCell c 3) 0
          ∗ semVal (recvCell c 4) 0
          ∗ semVal (recvCell c 5) 0
          ∗ semVal (recvCell c 6) 0
          ∗ semVal (recvCell c 7) 0
          ∗ semVal (sendCell c 0) 0
          ∗ semVal (sendCell c 1) 0
          ∗ semVal (sendCell c 2) 0
          ∗ semVal (sendCell c 3) 0
          ∗ semVal (sendCell c 4) 0
          ∗ semVal (sendCell c 5) 0
          ∗ semVal (sendCell c 6) 0
          ∗ semVal (sendCell c 7) 0
          ∗ s0Pts c f0
          ∗ s1Pts c f1
          ∗ oPts c (outAt m c f0 f1)
          ∗ owing c (owesR c [])) -∗ Q ⟨⟩)
      -∗ WP c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [cc0_body_eq_skeleton]; unfold cc0_body_skel
  simp only [Prog.lift]
  iintro #HR Hx0 Hx1 Hx2 Hx3 Hx4 Hx5 Hx6 Hx7 Hw0 Hw1 Hw2 Hw3 Hw4 Hw5 Hw6 Hw7 Hxb0 Hxb1 Hxb2 Hxb3 Hwb0 Hwb1 Hwb2 Hwb3 Hxq1 Hxq2 Hxq3 Hxq4 Hxq5 Hxq6 Hxq7 Hg0 Hgl1 Hgl2 Hgl3 Hgl4 Hgl5 Hgl6 Hgl7 Hsx0 Hsx1 Hsx2 Hsx3 Hsw0 Hsw1 Hsw2 Hsw3 Hab Har0 Har1 Har2 Har3 Har4 Har5 Har6 Har7 Has0 Has1 Has2 Has3 Has4 Has5 Has6 Has7 Hcb Hcr1 Hcr2 Hcr3 Hcr4 Hcr5 Hcr6 Hcr7 Hbt1 Hbt2 Hbt3 Hbt4 Hbt5 Hbt6 Hbt7 Hts1 Hts2 Hts3 Hts4 Hts5 Hts6 Hts7 Htr1 Htr2 Htr3 Htr4 Htr5 Htr6 Htr7 Hs0 Hs1 Ho HO Hk
  iapply (wp_then c)
  iapply (part1 m K c) $$ HR HO Hbt1 Hgl1 Hbt3 Hgl3 Hbt2 Hgl2 Hbt4 Hgl4 Hbt5 Hgl5 Hbt7 Hgl7
  iintro ⟨HO⟩
  try dsimp only
  iapply (wp_then c)
  iapply (part2 m K c _ _) $$ HR HO Hbt6 Hgl6 Hx1 Hxb0 Hsx0 Hx3 Hxb1 Hsx1 Hx2 Hxb2 Hsx2
  iintro ⟨HO, Hxf0, Hxf1, Hxf2⟩
  try dsimp only
  iapply (wp_then c)
  iapply (part3 m K c _) $$ HR Hx4 Hxb3 Hsx3 HO Hxf0 Hxq1 Hcb Hab Hts1 Htr1
  iintro ⟨Hxf3, Hx1, Hsx0, Hxb0, Hab, Hgr3, Hgr2, Hgr4, Hgr5, Hgr7, Hgr6, HO, Hcs1⟩
  try dsimp only
  iapply (wp_then c)
  iapply (part4 m K c _) $$ HR Hx5 Hxb0 Hsx0 HO Hxf1 Hxq3
  iintro ⟨Hxf0, HO, Hx3, Hsx1, Hxb1, Hxq3⟩
  try dsimp only
  iapply (wp_then c)
  iapply (part5 m K c _) $$ HR HO Hxq3 Hgr3 Hts3 Htr3 Hx7 Hxb1 Hsx1 Hxf2 Hxq2
  iintro ⟨Hcs3, Hxf1, HO, Hx2, Hsx2, Hxb2, Hxq2⟩
  try dsimp only
  iapply (wp_then c)
  iapply (part6 m K c _) $$ HR HO Hxq2 Hgr2 Hts2 Htr2 Hx6 Hxb2 Hsx2 Hxf3 Hxq4
  iintro ⟨Hcs2, Hxf2, HO, Hx4, Hsx3, Hxb3, Hxq4⟩
  try dsimp only
  iapply (wp_then c)
  iapply (part7 m K c _) $$ HR HO Hxq4 Hgr4 Hts4 Htr4 Hx0 Hxb3 Hsx3 Hxf0 Hxq5
  iintro ⟨Hcs4, Hxf3, HO, Hx5, Hsx0, Hxb0, Hxq5⟩
  try dsimp only
  iapply (wp_then c)
  iapply (part8 m K c _ _ _) $$ HR HO Hxq5 Hgr5 Hts5 Htr5 Hw0 Hwb0 Hsw0 Hxf1 Hxq7
  iintro ⟨Hcs5, Hwf0, HO, Hx7, Hsx1, Hxb1, Hxq7⟩
  try dsimp only
  iapply (wp_then c)
  iapply (part9 m K c _ _) $$ HR HO Hxq7 Hgr7 Hts7 Htr7 Hw1 Hwb1 Hsw1 Hxf2 Hxq6
  iintro %u ⟨Hcs7, Hwf1, HO, Hx6, Hsx2, Hxb2, Hxq6⟩
  try dsimp only
  iapply (wp_then c)
  iapply (part10 m K c _ _ _) $$ HR Hxq6 HO Hgr6 Hts6 Htr6 Hw3 Hwb2 Hsw2 Hxf3
  iintro ⟨Hcs6, Hwf2, HO, Hx0, Hsx3, Hxb3⟩
  try dsimp only
  iapply (wp_then c)
  iapply (part11 m K c _ f0 f1) $$ HR Hg0 Hw2 Hwb3 Hsw3 Hs0 Hs1 HO Hwf0
  iintro ⟨Hwf3, Hs0, Hs1, HO, Hw0, Hsw0, Hg0, Hwb0⟩
  try dsimp only
  iapply (wp_then c)
  iapply (part12 m K c _ _) $$ HR Hw4 Hwb0 Hsw0 HO Hwf1 Hcr1 Har1
  iintro ⟨Hwf0, Hwb1, Hw1, Hsw1, HO, Har1, Hg1⟩
  try dsimp only
  iapply (wp_then c)
  iapply (part13 m K c _ _ _ _) $$ HR Hwb1 Hw5 Hsw1 HO Hwf2
  iintro ⟨Hwf1, HO, Hwb2, Hw3, Hsw2⟩
  try dsimp only
  iapply (wp_then c)
  iapply (part14 m K c _ _ _) $$ HR HO Hcr3 Har3 Hwb2 Hw7 Hsw2
  iintro ⟨HO, Har3, Hg3, Hwf2⟩
  try dsimp only
  iapply (wp_then c)
  iapply (part15 m K c _ _ _) $$ HR HO Hwf3 Hcr2 Har2
  iintro ⟨Hw2, Hsw3, HO, Har2, Hg2, Hwb3⟩
  try dsimp only
  iapply (wp_then c)
  iapply (part16 m K c _ _) $$ HR Hw6 Hwb3 Hsw3 HO Hwf0 Hcr4 Har4
  iintro ⟨Hwf3, Hw4, Hsw0, HO, Har4, Hg4, Hwb0⟩
  try dsimp only
  iapply (wp_then c)
  iapply (part17 m K c _ _ _ _ _) $$ HR HO Hwf1 Hcr5 Har5
  iintro ⟨Hw5, Hsw1, HO, Har5, Hg5, Hwb1⟩
  try dsimp only
  iapply (wp_then c)
  iapply (part18 m K c _ _ _ _ _) $$ HR HO Hwf2 Hcr7 Har7
  iintro ⟨Hw7, Hsw2, HO, Har7, Hg7, Hwb2⟩
  try dsimp only
  iapply (wp_then c)
  iapply (part19 m K c _ _ _ _ _ _) $$ HR HO Hwf3 Hcr6 Har6
  iintro ⟨Hw6, Hsw3, HO, Har6, Hg6, Hwb3⟩
  try dsimp only
  iapply (wp_then c)
  iapply (part20 m K c _ _ _ _ _ f) $$ HR Ho Hwb3
  iintro ⟨Hwb3, Ho⟩
  try dsimp only
  iapply (wp_then c)
  iapply (part21 m K c) $$ HR HO Hcs1 Has1 Hcs3 Has3 Hcs2 Has2 Hcs4 Has4 Hcs5 Has5
  iintro ⟨Has1, Hxq1, Has3, Hxq3, Has2, Hxq2, Has4, Hxq4, HO, Has5, Hxq5⟩
  try dsimp only
  simp only [Prog.bind_op, Prog.bind_ret, Prog.pure_eq_ret]
  iapply (step_sendWait m K c 7 (by decide) rfl) $$ HR HO Hcs7 Has7
  iintro ⟨HO, Has7, Hxq7⟩
  iapply (step_sendWait m K c 6 (by decide) rfl) $$ HR HO Hcs6 Has6
  iintro ⟨HO, Has6, Hxq6⟩
  iapply (wp_done_upd c)
  imod (close_bar m K c) $$ HR Hab with Hab
  imod (close_recv0 m K c) $$ HR Har0 with Har0
  imod (close_send0 m K c) $$ HR Has0 with Has0
  imod (close_recv m K c 1) $$ HR Har1 with Har1
  imod (close_send m K c 1) $$ HR Has1 with Has1
  imod (close_recv m K c 2) $$ HR Har2 with Har2
  imod (close_send m K c 2) $$ HR Has2 with Has2
  imod (close_recv m K c 3) $$ HR Har3 with Har3
  imod (close_send m K c 3) $$ HR Has3 with Has3
  imod (close_recv m K c 4) $$ HR Har4 with Har4
  imod (close_send m K c 4) $$ HR Has4 with Has4
  imod (close_recv m K c 5) $$ HR Har5 with Har5
  imod (close_send m K c 5) $$ HR Has5 with Has5
  imod (close_recv m K c 6) $$ HR Har6 with Har6
  imod (close_send m K c 6) $$ HR Has6 with Has6
  imod (close_recv m K c 7) $$ HR Har7 with Har7
  imod (close_send m K c 7) $$ HR Has7 with Has7
  imodintro
  ihave Ho := (Entails.of_eq (congrArg (oPts c) (out_both m c f0 f1 f))) $$ Ho
  iapply Hk
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hxb0]; · iexact Hxb0
  isplitl [Hxb1]; · iexact Hxb1
  isplitl [Hxb2]; · iexact Hxb2
  isplitl [Hxb3]; · iexact Hxb3
  isplitl [Hwb0]; · iexact Hwb0
  isplitl [Hwb1]; · iexact Hwb1
  isplitl [Hwb2]; · iexact Hwb2
  isplitl [Hwb3]; · iexact Hwb3
  isplitl [Hxq1]; · iexact Hxq1
  isplitl [Hxq2]; · iexact Hxq2
  isplitl [Hxq3]; · iexact Hxq3
  isplitl [Hxq4]; · iexact Hxq4
  isplitl [Hxq5]; · iexact Hxq5
  isplitl [Hxq6]; · iexact Hxq6
  isplitl [Hxq7]; · iexact Hxq7
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  isplitl [Hg7]; · iexact Hg7
  isplitl [Hsx0]; · iexact Hsx0
  isplitl [Hsx1]; · iexact Hsx1
  isplitl [Hsx2]; · iexact Hsx2
  isplitl [Hsx3]; · iexact Hsx3
  isplitl [Hsw0]; · iexact Hsw0
  isplitl [Hsw1]; · iexact Hsw1
  isplitl [Hsw2]; · iexact Hsw2
  isplitl [Hsw3]; · iexact Hsw3
  isplitl [Hab]; · iexact Hab
  isplitl [Har0]; · iexact Har0
  isplitl [Har1]; · iexact Har1
  isplitl [Har2]; · iexact Har2
  isplitl [Har3]; · iexact Har3
  isplitl [Har4]; · iexact Har4
  isplitl [Har5]; · iexact Har5
  isplitl [Har6]; · iexact Har6
  isplitl [Har7]; · iexact Har7
  isplitl [Has0]; · iexact Has0
  isplitl [Has1]; · iexact Has1
  isplitl [Has2]; · iexact Has2
  isplitl [Has3]; · iexact Has3
  isplitl [Has4]; · iexact Has4
  isplitl [Has5]; · iexact Has5
  isplitl [Has6]; · iexact Has6
  isplitl [Has7]; · iexact Has7
  isplitl [Hs0]; · iexact Hs0
  isplitl [Hs1]; · iexact Hs1
  isplitl [Ho]; · iexact Ho
  iexact HO

end Body

end Cert.KernelIdeal.Exchange
-- ==== Proof.KernelIdeal.Whole.lean ====
/-
Whole buffers as their pieces, and the whole program of one device stated over whole buffers.
-/
module

public import proofs.«01_k».proof.Proof.KernelIdeal.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-! ## Lists of pieces -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- Something for every device: for this device and for its seven partners. -/
theorem bigSep_partners (c : Dev nD) (Φ : Dev nD → sProp 𝕄) :
    bigSep Finset.univ Φ = iprop(Φ c ∗ Φ (px 1 c) ∗ Φ (px 2 c) ∗ Φ (px 3 c) ∗ Φ (px 4 c) ∗ Φ (px 5 c) ∗ Φ (px 6 c) ∗ Φ (px 7 c)) := by
  rw [bigSep_univ_equiv (partners c) Φ, bigSep_fin8]
  show iprop(Φ (px 0 c) ∗ _) = _
  rw [px_zero]; rfl

/-! ## A buffer as the pieces of a partition -/

section Split
variable {T : Type} [Fintype T] [DecidableEq T] (ℓ : Loc nD τ sig) (P : T → Finset (Idx ℓ))

theorem split_eq (hc : Finset.univ.biUnion P = Finset.univ) (hd : ∀ t t', t ≠ t' → Disjoint (P t) (P t')) (f : Buf (Elt F) ℓ) :
    (ℓ ↦{fullShare} f : sProp 𝕄) = bigSep Finset.univ fun t => ℓ ↦[P t]{fullShare} f := by
  rw [← pointsTo_biUnion Finset.univ P fun t _ t' _ h => hd t t' h, hc]

theorem split_some (hc : Finset.univ.biUnion P = Finset.univ) (hd : ∀ t t', t ≠ t' → Disjoint (P t) (P t')) :
    iprop(∃ f : Buf (Elt F) ℓ, ℓ ↦{fullShare} f) ⊢ (bigSep Finset.univ fun t => iprop(∃ f : Buf (Elt F) ℓ, ℓ ↦[P t]{fullShare} f) : sProp 𝕄) := by
  have h (f : Buf (Elt F) ℓ) : (bigSep Finset.univ fun t => ℓ ↦[P t]{fullShare} f)
      ⊢ (bigSep Finset.univ fun t => iprop(∃ f : Buf (Elt F) ℓ, ℓ ↦[P t]{fullShare} f) : sProp 𝕄) :=
    bigSep_mono fun t _ => show (ℓ ↦[P t]{fullShare} f : sProp 𝕄) ⊢ iprop(∃ f : Buf (Elt F) ℓ, ℓ ↦[P t]{fullShare} f) from by
      iintro H; iexists f; iexact H
  iintro ⟨%f, H⟩
  ihave H := (Entails.of_eq (split_eq ℓ P hc hd f)) $$ H
  iapply (h f) $$ H

theorem join_some [Nonempty T] (hc : Finset.univ.biUnion P = Finset.univ) (hd : ∀ t t', t ≠ t' → Disjoint (P t) (P t')) :
    (bigSep Finset.univ fun t => iprop(∃ f : Buf (Elt F) ℓ, ℓ ↦[P t]{fullShare} f) : sProp 𝕄) ⊢ iprop(∃ f : Buf (Elt F) ℓ, ℓ ↦{fullShare} f) := by
  iintro H
  ihave H := (BI.bigSep_exists_pi Finset.univ (fun (t : T) (f : Buf (Elt F) ℓ) => (ℓ ↦[P t]{fullShare} f : sProp 𝕄))) $$ H
  icases H with ⟨%fs, H⟩
  ihave H := (pointsTo_biUnion_join Finset.univ P fs (fs (Classical.arbitrary T)) fun t _ t' _ h => hd t t' h) $$ H
  icases H with ⟨%g, -, H⟩
  rw [hc]
  iexists g; iexact H
end Split

theorem rows_cover : Finset.univ.biUnion rows = Finset.univ := by
  ext i; have h : (i 0 : Nat) < 4096 := (i 0).isLt
  simp only [Finset.mem_biUnion, Finset.mem_univ, true_and, iff_true]
  exact ⟨⟨(i 0 : Nat) / 512, by simp only [nD]; omega⟩, by unfold rows; simp⟩
theorem rows_disj (b b' : Dev nD) (h : b ≠ b') : Disjoint (rows b) (rows b') := by
  rw [Finset.disjoint_left]; intro i hi hi'
  unfold rows at hi hi'; rw [Finset.mem_filter] at hi hi'
  exact h (Fin.ext (hi.2.symm.trans hi'.2))
theorem wrows_cover : Finset.univ.biUnion wrows = Finset.univ := by
  ext i; have h : (i 0 : Nat) < 4096 := (i 0).isLt
  simp only [Finset.mem_biUnion, Finset.mem_univ, true_and, iff_true]
  exact ⟨⟨(i 0 : Nat) / 512, by simp only [nD]; omega⟩, by unfold wrows; simp⟩
theorem wrows_disj (b b' : Dev nD) (h : b ≠ b') : Disjoint (wrows b) (wrows b') := by
  rw [Finset.disjoint_left]; intro i hi hi'
  unfold wrows at hi hi'; rw [Finset.mem_filter] at hi hi'
  exact h (Fin.ext (hi.2.symm.trans hi'.2))
theorem xslot_cover : Finset.univ.biUnion xslot = Finset.univ := by
  ext i
  simp only [Finset.mem_biUnion, Finset.mem_univ, true_and, iff_true]
  exact ⟨i 0, by unfold xslot; simp⟩
theorem xslot_disj (b b' : Fin 4) (h : b ≠ b') : Disjoint (xslot b) (xslot b') := by
  rw [Finset.disjoint_left]; intro i hi hi'
  unfold xslot at hi hi'; rw [Finset.mem_filter] at hi hi'
  exact h (Fin.ext (hi.2.symm.trans hi'.2))
theorem wslot_cover : Finset.univ.biUnion wslot = Finset.univ := by
  ext i
  simp only [Finset.mem_biUnion, Finset.mem_univ, true_and, iff_true]
  exact ⟨i 0, by unfold wslot; simp⟩
theorem wslot_disj (b b' : Fin 4) (h : b ≠ b') : Disjoint (wslot b) (wslot b') := by
  rw [Finset.disjoint_left]; intro i hi hi'
  unfold wslot at hi hi'; rw [Finset.mem_filter] at hi hi'
  exact h (Fin.ext (hi.2.symm.trans hi'.2))
theorem gslot_cover : Finset.univ.biUnion gslot = Finset.univ := by
  ext i
  simp only [Finset.mem_biUnion, Finset.mem_univ, true_and, iff_true]
  exact ⟨i 0, by unfold gslot; simp⟩
theorem gslot_disj (b b' : Dev nD) (h : b ≠ b') : Disjoint (gslot b) (gslot b') := by
  rw [Finset.disjoint_left]; intro i hi hi'
  unfold gslot at hi hi'; rw [Finset.mem_filter] at hi hi'
  exact h (Fin.ext (hi.2.symm.trans hi'.2))

variable (m : (ℓ : Loc nD τ sig) → Buf (Elt F) ℓ)

/-! ## The buffers of a device -/

section Whole

variable (K : Dev nD × CellIx → ℕ) (c : Dev nD)

def xWhole : sProp 𝕄 := ((c : Thread nD τ).loc main_arg0 ↦{fullShare} xArg m c)
def wWhole : sProp 𝕄 := ((c : Thread nD τ).loc main_arg1 ↦{fullShare} wArg m c)
def scr0 : sProp 𝕄 := iprop(∃ f : Buf (Elt F) ((c : Thread nD τ).loc cc0_scratch0), (c : Thread nD τ).loc cc0_scratch0 ↦{fullShare} f)
def scr1 : sProp 𝕄 := iprop(∃ f : Buf (Elt F) ((c : Thread nD τ).loc cc0_scratch1), (c : Thread nD τ).loc cc0_scratch1 ↦{fullShare} f)
def scr2 : sProp 𝕄 := iprop(∃ f : Buf (Elt F) ((c : Thread nD τ).loc cc0_scratch2), (c : Thread nD τ).loc cc0_scratch2 ↦{fullShare} f)
def scr3 : sProp 𝕄 := iprop(∃ f : Buf (Elt F) ((c : Thread nD τ).loc cc0_scratch3), (c : Thread nD τ).loc cc0_scratch3 ↦{fullShare} f)

theorem x_pieces : xWhole m c = iprop(xPts m c c ∗ xPts m c (px 1 c) ∗ xPts m c (px 2 c) ∗ xPts m c (px 3 c) ∗ xPts m c (px 4 c) ∗ xPts m c (px 5 c) ∗ xPts m c (px 6 c) ∗ xPts m c (px 7 c)) := by
  unfold xWhole; rw [split_eq _ rows rows_cover rows_disj, bigSep_partners c]; rfl
theorem w_pieces : wWhole m c = iprop(wPts m c c ∗ wPts m c (px 1 c) ∗ wPts m c (px 2 c) ∗ wPts m c (px 3 c) ∗ wPts m c (px 4 c) ∗ wPts m c (px 5 c) ∗ wPts m c (px 6 c) ∗ wPts m c (px 7 c)) := by
  unfold wWhole; rw [split_eq _ wrows wrows_cover wrows_disj, bigSep_partners c]; rfl

theorem xb_split : scr0 (F := F) c ⊢ iprop((∃ f, xbPts (F := F) c 0 f) ∗ (∃ f, xbPts (F := F) c 1 f) ∗ (∃ f, xbPts (F := F) c 2 f) ∗ (∃ f, xbPts (F := F) c 3 f)) :=
  (split_some _ xslot xslot_cover xslot_disj).trans (Entails.of_eq (by rw [bigSep_fin4]; rfl))
theorem xb_join : iprop((∃ f, xbPts (F := F) c 0 f) ∗ (∃ f, xbPts (F := F) c 1 f) ∗ (∃ f, xbPts (F := F) c 2 f) ∗ (∃ f, xbPts (F := F) c 3 f)) ⊢ scr0 (F := F) c :=
  (Entails.of_eq (by rw [bigSep_fin4]; rfl)).trans (join_some ((c : Thread nD τ).loc cc0_scratch0) xslot xslot_cover xslot_disj)
theorem wb_split : scr3 (F := F) c ⊢ iprop((∃ f, wbPts (F := F) c 0 f) ∗ (∃ f, wbPts (F := F) c 1 f) ∗ (∃ f, wbPts (F := F) c 2 f) ∗ (∃ f, wbPts (F := F) c 3 f)) :=
  (split_some _ wslot wslot_cover wslot_disj).trans (Entails.of_eq (by rw [bigSep_fin4]; rfl))
theorem wb_join : iprop((∃ f, wbPts (F := F) c 0 f) ∗ (∃ f, wbPts (F := F) c 1 f) ∗ (∃ f, wbPts (F := F) c 2 f) ∗ (∃ f, wbPts (F := F) c 3 f)) ⊢ scr3 (F := F) c :=
  (Entails.of_eq (by rw [bigSep_fin4]; rfl)).trans (join_some ((c : Thread nD τ).loc cc0_scratch3) wslot wslot_cover wslot_disj)
theorem xq_split : scr1 (F := F) c ⊢ iprop((∃ f, xqPts (F := F) c c f) ∗ (∃ f, xqPts (F := F) c (px 1 c) f) ∗ (∃ f, xqPts (F := F) c (px 2 c) f) ∗ (∃ f, xqPts (F := F) c (px 3 c) f) ∗ (∃ f, xqPts (F := F) c (px 4 c) f) ∗ (∃ f, xqPts (F := F) c (px 5 c) f) ∗ (∃ f, xqPts (F := F) c (px 6 c) f) ∗ (∃ f, xqPts (F := F) c (px 7 c) f)) :=
  (split_some _ rows rows_cover rows_disj).trans (Entails.of_eq (by rw [bigSep_partners c]; rfl))
theorem xq_join : iprop((∃ f, xqPts (F := F) c c f) ∗ (∃ f, xqPts (F := F) c (px 1 c) f) ∗ (∃ f, xqPts (F := F) c (px 2 c) f) ∗ (∃ f, xqPts (F := F) c (px 3 c) f) ∗ (∃ f, xqPts (F := F) c (px 4 c) f) ∗ (∃ f, xqPts (F := F) c (px 5 c) f) ∗ (∃ f, xqPts (F := F) c (px 6 c) f) ∗ (∃ f, xqPts (F := F) c (px 7 c) f)) ⊢ scr1 (F := F) c :=
  (Entails.of_eq (by rw [bigSep_partners c]; rfl)).trans (join_some ((c : Thread nD τ).loc cc0_scratch1) rows rows_cover rows_disj)
theorem g_split : scr2 (F := F) c ⊢ iprop((∃ f, gPts (F := F) c c f) ∗ (∃ f, gPts (F := F) c (px 1 c) f) ∗ (∃ f, gPts (F := F) c (px 2 c) f) ∗ (∃ f, gPts (F := F) c (px 3 c) f) ∗ (∃ f, gPts (F := F) c (px 4 c) f) ∗ (∃ f, gPts (F := F) c (px 5 c) f) ∗ (∃ f, gPts (F := F) c (px 6 c) f) ∗ (∃ f, gPts (F := F) c (px 7 c) f)) :=
  (split_some _ gslot gslot_cover gslot_disj).trans (Entails.of_eq (by rw [bigSep_partners c]; rfl))
theorem g_join : iprop((∃ f, gPts (F := F) c c f) ∗ (∃ f, gPts (F := F) c (px 1 c) f) ∗ (∃ f, gPts (F := F) c (px 2 c) f) ∗ (∃ f, gPts (F := F) c (px 3 c) f) ∗ (∃ f, gPts (F := F) c (px 4 c) f) ∗ (∃ f, gPts (F := F) c (px 5 c) f) ∗ (∃ f, gPts (F := F) c (px 6 c) f) ∗ (∃ f, gPts (F := F) c (px 7 c) f)) ⊢ scr2 (F := F) c :=
  (Entails.of_eq (by rw [bigSep_partners c]; rfl)).trans (join_some ((c : Thread nD τ).loc cc0_scratch2) gslot gslot_cover gslot_disj)

/-! ## What the launch deals a device, and what it gets back -/

/-- The positions at the device's cells. -/
def positions : sProp 𝕄 :=
  iprop(atPos (ER (F := F)) (barCell c) 0 ∅ 0 ∗ (bigSep Finset.univ fun k : Fin 8 => atPos (ER (F := F)) (sendCell c k) 0 ∅ 0)
    ∗ (bigSep Finset.univ fun k : Fin 8 => atPos (ER (F := F)) (recvCell c k) 0 ∅ 0))
/-- The duties the device pays: per mask the partner's barrier's, its own send cell's, and the partner's arrival cell's. -/
def payments : sProp 𝕄 :=
  iprop((bigSep Finset.univ fun k : Fin 8 => dutyTok (ER (F := F)) (barCell (px k c)) 0 k)
    ∗ (bigSep Finset.univ fun k : Fin 8 => dutyTok (ER (F := F)) (sendCell c k) 0 0)
    ∗ (bigSep Finset.univ fun k : Fin 8 => dutyTok (ER (F := F)) (recvCell (px k c) k) 0 0))
/-- What the device will be paid: seven units at the barrier, a block per mask other than 0. -/
def credits : sProp 𝕄 :=
  iprop(cred (tallyAt (barCell c) () 7) ∗ bigSepL [1, 2, 3, 4, 5, 6, 7] fun k : Fin 8 => cred (tallyAt (recvCell c k) () N))
/-- The counters of the local copies, at zero, -/
def localSems : sProp 𝕄 :=
  iprop((bigSep Finset.univ fun s : Fin 4 => semVal ((c : Thread nD τ), .dma (xdS s)) 0)
    ∗ (bigSep Finset.univ fun s : Fin 4 => semVal ((c : Thread nD τ), .dma (wdS s)) 0))
/-- and of the exchange. -/
def ringSems : sProp 𝕄 :=
  iprop((bigSep Finset.univ fun k : Fin 8 => semVal (sendCell c k) 0) ∗ (bigSep Finset.univ fun k : Fin 8 => semVal (recvCell c k) 0))
/-- The arguments in the device's memory and its scratch buffers. -/
def buffers : sProp 𝕄 := iprop(xWhole m c ∗ wWhole m c ∗ scr0 (F := F) c ∗ scr1 (F := F) c ∗ scr2 (F := F) c ∗ scr3 (F := F) c)

set_option maxHeartbeats 4000000 in
/-- The whole program over whole buffers: with the arguments and the two scale words it is dealt, the result's buffer holds `outAt` at the
    end, everything else comes back, and every counter is at zero. -/
theorem body_whole (f0 f1 : S1.Idx → F .f32) (f : S512x2048.Idx → F .f32) {Q : PUnit.{1} → sProp 𝕄} :
    records m K ⊢ iprop(buffers m c -∗ positions (F := F) c -∗ payments (F := F) c -∗ credits (F := F) c -∗ localSems (F := F) c
      -∗ s0Pts c f0 -∗ s1Pts c f1 -∗ oPts c f -∗ owing c (O₀ c)
      -∗ ((buffers m c ∗ localSems (F := F) c ∗ ringSems (F := F) c ∗ semVal (barCell c) 0 ∗ s0Pts c f0 ∗ s1Pts c f1 ∗ oPts c (outAt m c f0 f1)
          ∗ owing c 0) -∗ Q ⟨⟩)
      -∗ WP c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  unfold buffers positions payments credits localSems ringSems
  rw [x_pieces, w_pieces]
  simp only [bigSep_fin8, bigSep_fin4]
  show records m K ⊢ iprop(_ -∗ _ -∗ _ -∗ (cred (tallyAt (barCell c) () 7) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N)) -∗ _)
  iintro #HR ⟨⟨Hx0, Hx1, Hx2, Hx3, Hx4, Hx5, Hx6, Hx7⟩, ⟨Hw0, Hw1, Hw2, Hw3, Hw4, Hw5, Hw6, Hw7⟩, Hsc0, Hsc1, Hsc2, Hsc3⟩ ⟨Hab, ⟨Has0, Has1, Has2, Has3, Has4, Has5, Has6, Has7⟩, ⟨Har0, Har1, Har2, Har3, Har4, Har5, Har6, Har7⟩⟩ ⟨⟨-, Hbt1, Hbt2, Hbt3, Hbt4, Hbt5, Hbt6, Hbt7⟩, ⟨-, Hts1, Hts2, Hts3, Hts4, Hts5, Hts6, Hts7⟩, ⟨-, Htr1, Htr2, Htr3, Htr4, Htr5, Htr6, Htr7⟩⟩ ⟨Hcb, Hcr1, Hcr2, Hcr3, Hcr4, Hcr5, Hcr6, Hcr7⟩ ⟨⟨Hsx0, Hsx1, Hsx2, Hsx3⟩, ⟨Hsw0, Hsw1, Hsw2, Hsw3⟩⟩ Hs0 Hs1 Ho HO Hk
  ihave Hsc0 := (xb_split c) $$ Hsc0
  icases Hsc0 with ⟨Hxb0, Hxb1, Hxb2, Hxb3⟩
  ihave Hsc3 := (wb_split c) $$ Hsc3
  icases Hsc3 with ⟨Hwb0, Hwb1, Hwb2, Hwb3⟩
  ihave Hsc1 := (xq_split c) $$ Hsc1
  icases Hsc1 with ⟨Hxq0, Hxq1, Hxq2, Hxq3, Hxq4, Hxq5, Hxq6, Hxq7⟩
  ihave Hsc2 := (g_split c) $$ Hsc2
  icases Hsc2 with ⟨Hg0, Hgl1, Hgl2, Hgl3, Hgl4, Hgl5, Hgl6, Hgl7⟩
  ihave HO := (Entails.of_eq (show owing (F := F) c (O₀ c) = owing c (owesB c [1, 3, 2, 4, 5, 7, 6]) from rfl)) $$ HO
  iapply (body_flat m K c f0 f1 f) $$ HR Hx0 Hx1 Hx2 Hx3 Hx4 Hx5 Hx6 Hx7 Hw0 Hw1 Hw2 Hw3 Hw4 Hw5 Hw6 Hw7 Hxb0 Hxb1 Hxb2 Hxb3 Hwb0 Hwb1 Hwb2 Hwb3 Hxq1 Hxq2 Hxq3 Hxq4 Hxq5 Hxq6 Hxq7 Hg0 Hgl1 Hgl2 Hgl3 Hgl4 Hgl5 Hgl6 Hgl7 Hsx0 Hsx1 Hsx2 Hsx3 Hsw0 Hsw1 Hsw2 Hsw3 Hab Har0 Har1 Har2 Har3 Har4 Har5 Har6 Har7 Has0 Has1 Has2 Has3 Has4 Has5 Has6 Has7 Hcb Hcr1 Hcr2 Hcr3 Hcr4 Hcr5 Hcr6 Hcr7 Hbt1 Hbt2 Hbt3 Hbt4 Hbt5 Hbt6 Hbt7 Hts1 Hts2 Hts3 Hts4 Hts5 Hts6 Hts7 Htr1 Htr2 Htr3 Htr4 Htr5 Htr6 Htr7 Hs0 Hs1 Ho HO
  iintro ⟨Hx0, Hx1, Hx2, Hx3, Hx4, Hx5, Hx6, Hx7, Hw0, Hw1, Hw2, Hw3, Hw4, Hw5, Hw6, Hw7, Hxb0, Hxb1, Hxb2, Hxb3, Hwb0, Hwb1, Hwb2, Hwb3, Hxq1, Hxq2, Hxq3, Hxq4, Hxq5, Hxq6, Hxq7, Hg0, Hg1, Hg2, Hg3, Hg4, Hg5, Hg6, Hg7, Hsx0, Hsx1, Hsx2, Hsx3, Hsw0, Hsw1, Hsw2, Hsw3, Hab, Har0, Har1, Har2, Har3, Har4, Har5, Har6, Har7, Has0, Has1, Has2, Has3, Has4, Has5, Has6, Has7, Hs0, Hs1, Ho, HO⟩
  ihave HO := (Entails.of_eq (show owing (F := F) c (owesR c []) = owing c 0 from rfl)) $$ HO
  iapply Hk
  isplitl [Hx0 Hx1 Hx2 Hx3 Hx4 Hx5 Hx6 Hx7 Hw0 Hw1 Hw2 Hw3 Hw4 Hw5 Hw6 Hw7 Hxb0 Hxb1 Hxb2 Hxb3 Hxq0 Hxq1 Hxq2 Hxq3 Hxq4 Hxq5 Hxq6 Hxq7 Hg0 Hg1 Hg2 Hg3 Hg4 Hg5 Hg6 Hg7 Hwb0 Hwb1 Hwb2 Hwb3]
  · isplitl [Hx0 Hx1 Hx2 Hx3 Hx4 Hx5 Hx6 Hx7]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      iexact Hx7
    isplitl [Hw0 Hw1 Hw2 Hw3 Hw4 Hw5 Hw6 Hw7]
    · isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
    isplitl [Hxb0 Hxb1 Hxb2 Hxb3]
    · iapply (xb_join c)
      isplitl [Hxb0]; · iexact Hxb0
      isplitl [Hxb1]; · iexact Hxb1
      isplitl [Hxb2]; · iexact Hxb2
      iexact Hxb3
    isplitl [Hxq0 Hxq1 Hxq2 Hxq3 Hxq4 Hxq5 Hxq6 Hxq7]
    · iapply (xq_join c)
      isplitl [Hxq0]; · iexact Hxq0
      isplitl [Hxq1]; · iexists _; iexact Hxq1
      isplitl [Hxq2]; · iexists _; iexact Hxq2
      isplitl [Hxq3]; · iexists _; iexact Hxq3
      isplitl [Hxq4]; · iexists _; iexact Hxq4
      isplitl [Hxq5]; · iexists _; iexact Hxq5
      isplitl [Hxq6]; · iexists _; iexact Hxq6
      iexists _; iexact Hxq7
    isplitl [Hg0 Hg1 Hg2 Hg3 Hg4 Hg5 Hg6 Hg7]
    · iapply (g_join c)
      isplitl [Hg0]; · iexists _; iexact Hg0
      isplitl [Hg1]; · iexists _; iexact Hg1
      isplitl [Hg2]; · iexists _; iexact Hg2
      isplitl [Hg3]; · iexists _; iexact Hg3
      isplitl [Hg4]; · iexists _; iexact Hg4
      isplitl [Hg5]; · iexists _; iexact Hg5
      isplitl [Hg6]; · iexists _; iexact Hg6
      iexists _; iexact Hg7
    iapply (wb_join c)
    isplitl [Hwb0]; · iexact Hwb0
    isplitl [Hwb1]; · iexact Hwb1
    isplitl [Hwb2]; · iexact Hwb2
    iexact Hwb3
  isplitl [Hsx0 Hsx1 Hsx2 Hsx3 Hsw0 Hsw1 Hsw2 Hsw3]
  · isplitl [Hsx0 Hsx1 Hsx2 Hsx3]
    · isplitl [Hsx0]; · iexact Hsx0
      isplitl [Hsx1]; · iexact Hsx1
      isplitl [Hsx2]; · iexact Hsx2
      iexact Hsx3
    isplitl [Hsw0]; · iexact Hsw0
    isplitl [Hsw1]; · iexact Hsw1
    isplitl [Hsw2]; · iexact Hsw2
    iexact Hsw3
  isplitl [Has0 Has1 Has2 Has3 Has4 Has5 Has6 Has7 Har0 Har1 Har2 Har3 Har4 Har5 Har6 Har7]
  · isplitl [Has0 Has1 Has2 Has3 Has4 Has5 Has6 Has7]
    · isplitl [Has0]; · iexact Has0
      isplitl [Has1]; · iexact Has1
      isplitl [Has2]; · iexact Has2
      isplitl [Has3]; · iexact Has3
      isplitl [Has4]; · iexact Has4
      isplitl [Has5]; · iexact Has5
      isplitl [Has6]; · iexact Has6
      iexact Has7
    isplitl [Har0]; · iexact Har0
    isplitl [Har1]; · iexact Har1
    isplitl [Har2]; · iexact Har2
    isplitl [Har3]; · iexact Har3
    isplitl [Har4]; · iexact Har4
    isplitl [Har5]; · iexact Har5
    isplitl [Har6]; · iexact Har6
    iexact Har7
  isplitl [Hab]; · iexact Hab
  isplitl [Hs0]; · iexact Hs0
  isplitl [Hs1]; · iexact Hs1
  isplitl [Ho]; · iexact Ho
  iexact HO

end Whole

end Cert.KernelIdeal.Exchange
-- ==== Proof.KernelIdeal.Ghost.lean ====
/-
What the launch deals: the cells' rounds, the positions and the duties of every device, and the credits.
-/
module

public import proofs.«01_k».proof.Proof.KernelIdeal.Whole

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-! ## The semaphores of the launch -/

/-- The semaphores the program owns: per mask the send (`false`) and the arrival (`true`), per slot the copies of `x` (`false`) and of `w` (`true`). -/
abbrev OwnIx : Type := (Bool × Fin 8) ⊕ (Bool × Fin 4)
abbrev osem : OwnIx → SemLoc sig
  | .inl (false, k) => .dma (sendS k)
  | .inl (true, k) => .dma (recvS k)
  | .inr (false, s) => .dma (xdS s)
  | .inr (true, s) => .dma (wdS s)

theorem ownSemFacts : Pipeline.OwnSemFacts cfg0.spec osem := by decide +kernel

theorem sendCell_inj {c c' : Dev nD} {k k' : Fin 8} (h : sendCell c k = sendCell c' k') : c = c' ∧ k = k' := by
  have h1 : c = c' := congrArg (fun g : GSem nD τ sig => g.1.1) h
  have h2 : (SemLoc.dma (sendS k) : SemLoc sig) = .dma (sendS k') := congrArg Prod.snd h
  have h3 : smask (.dma (sendS k) : SemLoc sig) = smask (.dma (sendS k')) := congrArg smask h2
  rw [smask_send, smask_send] at h3
  exact ⟨h1, Option.some.inj h3⟩
theorem recvCell_inj {c c' : Dev nD} {k k' : Fin 8} (h : recvCell c k = recvCell c' k') : c = c' ∧ k = k' := by
  have h1 : c = c' := congrArg (fun g : GSem nD τ sig => g.1.1) h
  have h2 : (SemLoc.dma (recvS k) : SemLoc sig) = .dma (recvS k') := congrArg Prod.snd h
  have h3 : rmask (.dma (recvS k) : SemLoc sig) = rmask (.dma (recvS k')) := congrArg rmask h2
  rw [rmask_recv, rmask_recv] at h3
  exact ⟨h1, Option.some.inj h3⟩
theorem send_ne_recv {c c' : Dev nD} {k k' : Fin 8} : sendCell c k ≠ recvCell c' k' := fun h => by
  have h2 : (SemLoc.dma (sendS k) : SemLoc sig) = .dma (recvS k') := congrArg Prod.snd h
  have h3 : rmask (.dma (sendS k) : SemLoc sig) = rmask (.dma (recvS k')) := congrArg rmask h2
  rw [rmask_send, rmask_recv] at h3; exact absurd h3 (by simp)
theorem bar_inj {c c' : Dev nD} (h : barCell c = barCell c') : c = c' := congrArg (fun g : GSem nD τ sig => g.1.1) h
theorem sendCell_ne_bar {c c' : Dev nD} {k : Fin 8} : sendCell c k ≠ barCell c' := fun h => send_ne_bar k (congrArg Prod.snd h)
theorem recvCell_ne_bar {c c' : Dev nD} {k : Fin 8} : recvCell c k ≠ barCell c' := fun h => recv_ne_bar k (congrArg Prod.snd h)

theorem kcell_injective : Function.Injective kcell := by
  rintro ⟨c, i⟩ ⟨c', i'⟩ h
  rcases i with _ | ⟨_ | _, k⟩ <;> rcases i' with _ | ⟨_ | _, k'⟩
  · have h1 : c = c' := bar_inj h
    subst h1; rfl
  · exact absurd h.symm sendCell_ne_bar
  · exact absurd h.symm recvCell_ne_bar
  · exact absurd h sendCell_ne_bar
  · have h1 : c = c' := (sendCell_inj h).1
    have h2 : k = k' := (sendCell_inj h).2
    subst h1; subst h2; rfl
  · exact absurd h send_ne_recv
  · exact absurd h recvCell_ne_bar
  · exact absurd h.symm send_ne_recv
  · have h1 : c = c' := (recvCell_inj h).1
    have h2 : k = k' := (recvCell_inj h).2
    subst h1; subst h2; rfl
def ringCells : Finset (GSem nD τ sig) := Finset.univ.map ⟨kcell, kcell_injective⟩

/-- A device's own cells' duty tokens as minted: which device, which kind of cell (barrier, send, arrival), which mask. -/
abbrev tokOf (p : Dev nD × (Fin 3 × Fin 8)) : GSem nD τ sig × ℕ × Fin 8 := match p.2 with
  | (0, k) => (barCell p.1, 0, k)
  | (1, k) => (sendCell p.1 k, 0, 0)
  | (2, k) => (recvCell p.1 k, 0, 0)
theorem tokOf_injective : Function.Injective tokOf := by
  rintro ⟨c, j, k⟩ ⟨c', j', k'⟩ h
  have hg : (tokOf (c, j, k)).1 = (tokOf (c', j', k')).1 := congrArg Prod.fst h
  have hd : (tokOf (c, j, k)).2.2 = (tokOf (c', j', k')).2.2 := congrArg (fun x => x.2.2) h
  fin_cases j <;> fin_cases j'
  · have h1 : c = c' := bar_inj hg
    have h2 : k = k' := hd
    subst h1; subst h2; rfl
  · exact absurd hg.symm sendCell_ne_bar
  · exact absurd hg.symm recvCell_ne_bar
  · exact absurd hg sendCell_ne_bar
  · have h1 : c = c' := (sendCell_inj hg).1
    have h2 : k = k' := (sendCell_inj hg).2
    subst h1; subst h2; rfl
  · exact absurd hg send_ne_recv
  · exact absurd hg recvCell_ne_bar
  · exact absurd hg.symm send_ne_recv
  · have h1 : c = c' := (recvCell_inj hg).1
    have h2 : k = k' := (recvCell_inj hg).2
    subst h1; subst h2; rfl
def ringToks : Finset (GSem nD τ sig × ℕ × Fin 8) := Finset.univ.map ⟨tokOf, tokOf_injective⟩

def u₀ : UU :=
  (initOf (Pipeline.cells cfgs cellOf_inj) (Pipeline.launchToks cfgs cellOf_inj), (initOf ringCells ringToks, 1))

/-! ## Something for every cell of a device -/

theorem bigSep_bool {J : Type} [Fintype J] (Φ : Bool × J → sProp 𝕄) :
    bigSep Finset.univ Φ = iprop((bigSep Finset.univ fun k => Φ (false, k)) ∗ bigSep Finset.univ fun k => Φ (true, k)) := by
  rw [bigSep_univ_prod]
  exact bigSep_univ_eq_bigSepL [false, true] (by decide) (by decide) _
theorem bigSep_fin3 {J : Type} [Fintype J] (Φ : Fin 3 × J → sProp 𝕄) :
    bigSep Finset.univ Φ = iprop((bigSep Finset.univ fun k => Φ (0, k)) ∗ (bigSep Finset.univ fun k => Φ (1, k)) ∗ bigSep Finset.univ fun k => Φ (2, k)) := by
  rw [bigSep_univ_prod]
  exact bigSep_univ_eq_bigSepL [0, 1, 2] (by decide) (by decide) _
theorem bigSep_cell (Φ : CellIx → sProp 𝕄) :
    bigSep Finset.univ Φ = iprop(Φ none ∗ (bigSep Finset.univ fun k => Φ (some (false, k))) ∗ bigSep Finset.univ fun k => Φ (some (true, k))) := by
  rw [bigSep_univ_equiv ((Equiv.sumComm Unit (Bool × Fin 8)).trans (Equiv.optionEquivSumPUnit (Bool × Fin 8)).symm) Φ, bigSep_univ_sum,
    bigSep_univ_of_subsingleton (), bigSep_bool (fun p : Bool × Fin 8 => Φ (((Equiv.sumComm Unit (Bool × Fin 8)).trans (Equiv.optionEquivSumPUnit (Bool × Fin 8)).symm) (.inr p)))]
  rfl
/-- Dealing to every device, per mask, what belongs to its partner. -/
theorem bigSep_exchange (Φ : Dev nD → Fin 8 → sProp 𝕄) :
    (bigSep Finset.univ fun c => bigSep Finset.univ fun k => Φ c k) = bigSep Finset.univ fun c => bigSep Finset.univ fun k => Φ (px k c) k := by
  rw [bigSep_univ_comm, bigSep_congr fun k _ => bigSep_univ_equiv (swap k) fun c => Φ c k]
  exact bigSep_univ_comm _

variable (m : (ℓ : Loc nD τ sig) → Buf (Elt F) ℓ)

/-! ## The ghost state at launch -/

section Ghost

/-- The duty tokens of device `c`'s own cells. -/
def toks (c : Dev nD) : sProp 𝕄 :=
  iprop((bigSep Finset.univ fun k : Fin 8 => dutyTok (ER (F := F)) (barCell c) 0 k)
    ∗ (bigSep Finset.univ fun k : Fin 8 => dutyTok (ER (F := F)) (sendCell c k) 0 0)
    ∗ (bigSep Finset.univ fun k : Fin 8 => dutyTok (ER (F := F)) (recvCell c k) 0 0))

/-- What the launch deals device `c`. -/
def G (c : Dev nD) : sProp 𝕄 :=
  iprop((bigSep Finset.univ fun i : CellIx => roundState ER (ringRd m) (kcell (c, i)) 0)
    ∗ (bigSep Finset.univ fun i : CellIx => iprop(atPos (ER (F := F)) (kcell (c, i)) 0 ∅ 0 ∗ reached (ER (F := F)) (kcell (c, i)) 0)) ∗ toks (F := F) c)

/-- What everyone knows of the cells, under the names `K`. -/
def known (K : Dev nD × CellIx → ℕ) : sProp 𝕄 :=
  bigSep Finset.univ fun p => iprop(cellInv ER (ringRd m) (K p) (kcell p) ∗ reached ER (kcell p) 0)
instance known_persistent (K : Dev nD × CellIx → ℕ) : BI.Persistent (known m K) := by unfold known; infer_instance

theorem records_intro (K : Dev nD × CellIx → ℕ) : iprop(known m K ∗ levAts L lv) ⊢ records m K := by
  unfold known records; exact BI.Entails.refl _

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CellIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_fin3]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(ringSems (F := F) c ∗ localSems (F := F) c) := by
  unfold Pipeline.ownSems0; rw [bigSep_univ_sum, bigSep_bool, bigSep_bool]; rfl
/-- The barrier's semaphore is the one that lives outside the launch. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) : (bigSep Finset.univ fun i : CellIx => semVal (kcell (c, i)) 0 : sProp 𝕄) = iprop(semVal (barCell c) 0 ∗ ringSems (F := F) c) := by
  rw [bigSep_cell]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (ringRd m) κ (kcell (c, i))))
          ∗ (bigSep Finset.univ fun i : CellIx => iprop(atPos (ER (F := F)) (kcell (c, i)) 0 ∅ 0 ∗ reached (ER (F := F)) (kcell (c, i)) 0))
          ∗ toks (F := F) c ∗ localSems (F := F) c) := by
  unfold G
  rw [ownSems0_eq, unscopedSems0_eq]
  iintro ⟨⟨Hrs, Hls⟩, Hus, Hst, Hat, Htok⟩
  ihave Hv := (Entails.of_eq (sems0_eq (F := F) c).symm) $$ [Hrs Hus]
  · isplitl [Hus] <;> iassumption
  imod (show iprop((bigSep Finset.univ fun i : CellIx => semVal (kcell (c, i)) 0) ∗ bigSep Finset.univ fun i : CellIx => roundState ER (ringRd m) (kcell (c, i)) 0)
      ⊢ (|={Set.univ}=> bigSep Finset.univ fun i => iprop(∃ κ : ℕ, cellInv ER (ringRd m) κ (kcell (c, i))) : sProp 𝕄) from by
        rw [← bigSep_sep']
        exact (bigSep_mono fun i _ => (Rounds.body_intro ER (ringRd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hls

/-- What a device holds besides what everyone knows. -/
def dealt (c : Dev nD) : sProp 𝕄 := iprop(positions (F := F) c ∗ payments (F := F) c ∗ localSems (F := F) c)

theorem toks_around : (bigSep Finset.univ fun c : Dev nD => toks (F := F) c) = bigSep Finset.univ fun c : Dev nD => payments (F := F) c := by
  unfold toks payments
  rw [bigSep_sep', bigSep_sep', bigSep_sep', bigSep_sep', bigSep_exchange (fun c k => (dutyTok (ER (F := F)) (barCell c) 0 k : sProp 𝕄)),
    bigSep_exchange (fun c k => (dutyTok (ER (F := F)) (recvCell c k) 0 0 : sProp 𝕄))]

theorem positions_eq (c : Dev nD) : (bigSep Finset.univ fun i : CellIx => (atPos (ER (F := F)) (kcell (c, i)) 0 ∅ 0 : sProp 𝕄)) = positions (F := F) c := by
  rw [bigSep_cell]; rfl

/-- What the launch makes of it, per device. -/
def Gd (c : Dev nD) : sProp 𝕄 := iprop(∃ K, known m K ∗ dealt (F := F) c)

theorem with_known {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun i => iprop(∃ κ : ℕ, cellInv ER (ringRd m) κ (kcell (c, i))))
          ∗ (bigSep Finset.univ fun i : CellIx => iprop(atPos (ER (F := F)) (kcell (c, i)) 0 ∅ 0 ∗ reached (ER (F := F)) (kcell (c, i)) 0))
          ∗ toks (F := F) c ∗ localSems (F := F) c) : sProp 𝕄)
      ⊢ bigSep Finset.univ (Gd m) := by
  rw [bigSep_sep', bigSep_sep', bigSep_sep', ← bigSep_univ_prod (fun p : Dev nD × CellIx => iprop(∃ κ : ℕ, cellInv ER (ringRd m) κ (kcell p))),
    bigSep_congr (s := Finset.univ) (fun (c : Dev nD) _ => bigSep_sep' Finset.univ (fun i : CellIx => (atPos (ER (F := F)) (kcell (c, i)) 0 ∅ 0 : sProp 𝕄)) (fun i => reached (ER (F := F)) (kcell (c, i)) 0)),
    bigSep_sep', ← bigSep_univ_prod (fun p : Dev nD × CellIx => (reached (ER (F := F)) (kcell p) 0 : sProp 𝕄)), toks_around]
  iintro ⟨HI, ⟨Hat, HR⟩, Htok, Hls⟩
  ihave HK := (BI.bigSep_exists_pi Finset.univ (fun (p : Dev nD × CellIx) (κ : ℕ) => (cellInv ER (ringRd m) κ (kcell p) : sProp 𝕄))) $$ HI
  icases HK with ⟨%K, HI⟩
  iapply (with_known (R := known m K) (Φ := dealt (F := F)) (Ψ := Gd m) fun c => by
    unfold Gd; iintro ⟨#Hk, Hd⟩; iexists K
    isplitr; · iexact Hk
    iexact Hd)
  isplitl [HI HR]
  · unfold known; rw [bigSep_sep']
    isplitl [HI] <;> iassumption
  · have e : (bigSep Finset.univ fun c : Dev nD => dealt (F := F) c)
        = iprop((bigSep Finset.univ fun c : Dev nD => bigSep Finset.univ fun i : CellIx => (atPos (ER (F := F)) (kcell (c, i)) 0 ∅ 0 : sProp 𝕄))
          ∗ (bigSep Finset.univ fun c : Dev nD => payments (F := F) c) ∗ bigSep Finset.univ fun c : Dev nD => localSems (F := F) c) := by
      unfold dealt; rw [bigSep_sep', bigSep_sep', bigSep_congr (s := Finset.univ) fun (c : Dev nD) _ => positions_eq (F := F) c]
    iapply (Entails.of_eq e.symm)
    isplitl [Hat]; · iexact Hat
    isplitl [Htok] <;> iassumption

/-- All devices' cells at once: the invariants are made, and the duties dealt to those who pay them. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (Gd m) :=
  ((bigSep_mono fun c _ => core_alloc m c).trans (bigSep_fupd _ _)).trans (BI.fupd_mono (regroup m))

end Ghost

/-! ## The credits -/

section Credits

theorem owesR_bar (d c : Dev nD) : ∀ l, owesR d l (barCell c) () = 0
  | [] => rfl
  | k :: l => by
    unfold owesR
    rw [Pi.add_apply, Finsupp.add_apply, owesR_bar d c l, tallyAt_ne_cell (fun h => recvCell_ne_bar h.symm)]; rfl
theorem owesB_bar (d c : Dev nD) : ∀ l, owesB d l (barCell c) () = (l.map fun k => if d = px k c then 1 else 0).sum
  | [] => owesR_bar d c masks
  | k :: l => by
    unfold owesB
    rw [Pi.add_apply, Finsupp.add_apply, owesB_bar d c l, tallyAt_apply, List.map_cons, List.sum_cons, Nat.add_comm]
    congr 1
    by_cases h : d = px k c
    · subst h; rw [px_px, if_pos ⟨rfl, rfl⟩, if_pos rfl]
    · rw [if_neg (fun h' => h (by rw [bar_inj h'.1, px_px])), if_neg h]
theorem owesR_recv (d c : Dev nD) (k : Fin 8) : ∀ l, owesR d l (recvCell c k) () = (l.map fun j => if d = px k c then (if j = k then N else 0) else 0).sum
  | [] => rfl
  | j :: l => by
    unfold owesR
    rw [Pi.add_apply, Finsupp.add_apply, owesR_recv d c k l, tallyAt_apply, List.map_cons, List.sum_cons, Nat.add_comm]
    congr 1
    by_cases h : d = px k c
    · subst h; rw [if_pos rfl]
      by_cases hj : j = k
      · subst hj; rw [px_px, if_pos ⟨rfl, rfl⟩, if_pos rfl]
      · rw [if_neg (fun h' => hj (recvCell_inj h'.1).2.symm), if_neg hj]
    · rw [if_neg (fun h' => by
        obtain ⟨h1, h2⟩ := recvCell_inj h'.1
        subst h2; exact h (by rw [h1, px_px])), if_neg h]
theorem owesB_recv (d c : Dev nD) (k : Fin 8) : ∀ l, owesB d l (recvCell c k) () = owesR d masks (recvCell c k) ()
  | [] => rfl
  | j :: l => by
    unfold owesB
    rw [Pi.add_apply, Finsupp.add_apply, owesB_recv d c k l, tallyAt_ne_cell (fun h => recvCell_ne_bar h)]; rfl

theorem sum_ind (g : Fin 8 → Dev nD) (v : Fin 8 → ℕ) : ∀ l : List (Fin 8),
    ∑ d : Dev nD, (l.map fun k => if d = g k then v k else 0).sum = (l.map v).sum
  | [] => by simp
  | k :: l => by
    simp only [List.map_cons, List.sum_cons]
    rw [Finset.sum_add_distrib, sum_ind g v l, Finset.sum_ite_eq' Finset.univ (g k) fun _ => v k, if_pos (Finset.mem_univ _)]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  unfold O₀
  rw [Finset.sum_congr rfl fun d _ => owesB_bar d c masks, sum_ind (fun k => px k c) (fun _ => 1)]
  rfl
theorem launch_recv (c : Dev nD) (k : Fin 8) (hk : k ≠ 0) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same]
  unfold O₀
  rw [Finset.sum_congr rfl fun d _ => (owesB_recv d c k masks).trans (owesR_recv d c k masks), sum_ind (fun _ => px k c) (fun j => if j = k then N else 0)]
  generalize N = n
  revert hk; fin_cases k <;> intro hk <;> first | exact absurd rfl hk | simp [masks]

/-- The cells that are paid: the barrier's, in the place of the mask 0, and the arrivals'. -/
abbrev paidSem (k : Fin 8) : SemLoc sig := if k = 0 then .reg barS else .dma (recvS k)
theorem paidSem_injective : Function.Injective paidSem := by
  intro k k' h
  by_cases hk : k = 0 <;> by_cases hk' : k' = 0
  · rw [hk, hk']
  · exact absurd (by unfold paidSem at h; rw [if_pos hk, if_neg hk'] at h; exact h.symm) (recv_ne_bar k')
  · exact absurd (by unfold paidSem at h; rw [if_neg hk, if_pos hk'] at h; exact h) (recv_ne_bar k)
  · unfold paidSem at h; rw [if_neg hk, if_neg hk'] at h
    have h3 : rmask (.dma (recvS k) : SemLoc sig) = rmask (.dma (recvS k')) := congrArg rmask h
    rw [rmask_recv, rmask_recv] at h3
    exact Option.some.inj h3

theorem creds (c : Dev nD) : (Pipeline.launchCred O₀ c : sProp 𝕄) ⊢ credits (F := F) c := by
  unfold Pipeline.launchCred
  refine (bigSep_subset (Finset.subset_univ (Finset.univ.map ⟨paidSem, paidSem_injective⟩))).trans ?_
  rw [bigSep_map, bigSep_fin8]
  have hb : (cred (tallyOn (barCell c) (launchCredit (Pipeline.owing O₀) 0 (barCell c))) : sProp 𝕄) ⊢ cred (tallyAt (barCell c) () 7) :=
    Entails.of_eq (by rw [launch_bar])
  have hr (k : Fin 8) (hk : k ≠ 0) : (cred (tallyOn (recvCell c k) (launchCredit (Pipeline.owing O₀) 0 (recvCell c k))) : sProp 𝕄) ⊢ cred (tallyAt (recvCell c k) () N) :=
    Entails.of_eq (by rw [launch_recv c k hk])
  unfold credits
  exact BI.sep_mono hb (BI.sep_mono (hr 1 (by decide)) (BI.sep_mono (hr 2 (by decide)) (BI.sep_mono (hr 3 (by decide)) (BI.sep_mono (hr 4 (by decide))
    (BI.sep_mono (hr 5 (by decide)) (BI.sep_mono (hr 6 (by decide)) (hr 7 (by decide))))))))

end Credits

end Cert.KernelIdeal.Exchange
-- ==== Proof.KernelIdeal.Run.lean ====
/-
The launch: from any memory with every counter at zero the run ends, with the result at the computed contents, the arguments as they were and every counter at zero.
-/
module

public import proofs.«01_k».proof.Proof.KernelIdeal.Ghost
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The data of the launch -/

/-- The two scale words as the pipeline brings them, and the result's buffer after the body. -/
def sc0 (c : Dev nD) : S1.Idx → F .f32 := (win0_0.blk (0 : Fin 1)).view.read (Elt F) ((s₀ m ρ).mem ((c : Thread nD τ).loc main_arg2))
def sc1 (c : Dev nD) : S1.Idx → F .f32 := (win0_1.blk (0 : Fin 1)).view.read (Elt F) ((s₀ m ρ).mem ((c : Thread nD τ).loc main_arg3))
def result (c : Dev nD) : S512x2048.Idx → F .f32 := outAt m c (sc0 m ρ c) (sc1 m ρ c)

/-- What a device's body starts from, besides the scratch buffers. -/
def start (c : Dev nD) : sProp 𝕄 :=
  iprop((∃ K, records m K ∗ dealt (F := F) c) ∗ credits (F := F) c ∗ xWhole m c ∗ wWhole m c)
def Φ₀ (c : Dev nD) : sProp 𝕄 := iprop(start m c ∗ scr0 (F := F) c ∗ scr1 (F := F) c ∗ scr2 (F := F) c ∗ scr3 (F := F) c)
def Φ₁ (c : Dev nD) : sProp 𝕄 := iprop(buffers m c ∗ localSems (F := F) c ∗ ringSems (F := F) c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sc0 m ρ c
    | ⟨1, _⟩ => sc1 m ρ c
    | ⟨2, _⟩ => result m ρ c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at the contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, and what the body hands back. -/
def bodyPre (c : Dev nD) : sProp 𝕄 :=
  iprop(Φ₀ m c ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))
def bodyPost (c : Dev nD) : sProp 𝕄 :=
  iprop(Φ₁ m c ∗ (dats m ρ 0 c).owesAt () t0_0.succ ∗ staged c cc0_stg0_0 (sc0 m ρ c) ∗ staged c cc0_stg1_0 (sc1 m ρ c) ∗ staged c cc0_stg2_0 (result m ρ c))

theorem body_sound (c : Dev nD) :
    bodyPre m ρ c ⊢ WP c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
      (fun _ => bodyPost m ρ c) := by
  unfold bodyPre Φ₀ start dealt Dat.owesAt Pipeline.owesWithin
  iintro ⟨⟨⟨⟨%K, #HR, Hpos, Hpay, Hls⟩, Hcr, Hx, Hw⟩, Hb0, Hb1, Hb2, Hb3⟩, ⟨%W, %hW, HO⟩, ⟨%d0, %g0, %hg0, H0⟩, ⟨%d1, %g1, %hg1, H1⟩, ⟨%d2, %g2, %hg2, H2⟩⟩
  have h0 : g0 = sc0 m ρ c := by rw [hg0]; unfold Dat.before; rw [if_pos (fetch0_0 t0_0)]; rfl
  have h1 : g1 = sc1 m ρ c := by rw [hg1]; unfold Dat.before; rw [if_pos (fetch0_1 t0_0)]; rfl
  subst h0; subst h1
  have hb := body_whole m K c (sc0 m ρ c) (sc1 m ρ c) g2 (Q := fun _ => bodyPost m ρ c)
  iapply hb $$ HR [Hx Hw Hb0 Hb1 Hb2 Hb3] Hpos Hpay Hcr Hls [H0] [H1] [H2] [HO]
  · unfold buffers
    isplitl [Hx]; · iexact Hx
    isplitl [Hw]; · iexact Hw
    isplitl [Hb0]; · iexact Hb0
    isplitl [Hb1]; · iexact Hb1
    isplitl [Hb2] <;> iassumption
  · unfold s0Pts; iexact H0
  · unfold s1Pts; iexact H1
  · unfold oPts; iexact H2
  · unfold owing; iexists W; iexact HO
  unfold owing s0Pts s1Pts oPts bodyPost Φ₁ Dat.owesAt Pipeline.owesWithin
  iintro ⟨Hbuf, Hls, Hrs, Hbar, H0, H1, H2, ⟨%W', HO⟩⟩
  isplitl [Hbuf Hls Hrs Hbar]
  · isplitl [Hbuf]; · iexact Hbuf
    isplitl [Hls]; · iexact Hls
    isplitl [Hrs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 40000 in
/-- The body's obligation to the pipeline on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_sound m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Gd m c)
      ⊢ |={Set.univ}=> iprop(start m c ∗ emp) := by
  have hu : (Pipeline.unscopedRestP Pipeline.Prefetch.none cfg0.spec c (fun b => m ((c : Thread nD τ).loc b)) : sProp 𝕄) ⊢ iprop(xWhole m c ∗ wWhole m c) := by
    rw [Pipeline.unscopedRestP_none]
    exact Entails.of_eq (unscopedRest0_eq c _)
  have hc := creds (F := F) c
  unfold Gd
  iintro ⟨Hu, Hlev, Hcr, -, ⟨%K, Hk, Hd⟩⟩
  ihave Hc := hc $$ Hcr
  ihave Hxw := hu $$ Hu
  icases Hxw with ⟨Hx, Hw⟩
  have hr := records_intro m K
  imodintro
  unfold start
  isplitl
  · isplitl [Hk Hlev Hd]
    · iexists K
      isplitl [Hk Hlev]
      · iapply hr
        isplitl [Hk] <;> iassumption
      iexact Hd
    isplitl [Hc]; · iexact Hc
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr0 scr1 scr2 scr3
  iintro ⟨Hs, -, Hr⟩
  isplitl [Hs]; · iexact Hs
  iexact Hr

/-- What leaves the launch with the device: the barrier's counter at zero and its two shards. -/
def left (c : Dev nD) : sProp 𝕄 := iprop(unscopedSems0 c ∗ xWhole m c ∗ wWhole m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ left buffers scr0 scr1 scr2 scr3
  rw [unscopedSems0_eq]
  iintro ⟨⟨Hx, Hw, Hb⟩, Hls, Hrs, Hbar⟩
  isplitl [Hx Hw Hbar]
  · isplitl [Hbar]; · iexact Hbar
    isplitl [Hx] <;> iassumption
  isplitl [Hls Hrs]
  · isplitl [Hrs] <;> iassumption
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

theorem fund : ownU u₀ ⊢ (|={Set.univ}=> iprop(BI.own (EP (F := F) (initOf (Pipeline.cells cfgs cellOf_inj) (Pipeline.launchToks cfgs cellOf_inj))) ∗ bigSep Finset.univ (G m)) : sProp 𝕄) := by
  unfold u₀
  have h1 := ownU_pair (nD := nD) (τ := τ) (sig := sig) (Ix := Unit) (Val := Elt F) (Name := ℕ) (Lvl := ℕ)
    (initOf (Pipeline.cells cfgs cellOf_inj) (Pipeline.launchToks cfgs cellOf_inj) : UR sig nD τ) ((initOf ringCells ringToks, 1) : UB × Counters)
  have h2 : (BI.own ((embR : Emb (UB × Counters) 𝕄) (initOf ringCells ringToks, 1)) : sProp 𝕄) ⊢ iprop(BI.own (ER (F := F) (initOf ringCells ringToks)) ∗ BI.own (((Emb.inr : Emb Counters (UB × Counters)).trans (embR : Emb (UB × Counters) 𝕄)) 1)) :=
    own_pair_emb (embR : Emb (UB × Counters) 𝕄) (initOf ringCells ringToks) 1
  have h3 := fund_ring m
  iintro Hu
  ihave H := h1 $$ Hu
  icases H with ⟨HP, HX⟩
  ihave H := h2 $$ HX
  icases H with ⟨HX, -⟩
  imod h3 $$ HX with HG
  imodintro
  isplitl [HP] <;> iassumption

/-! ## The run -/

/-- What array `w` of device `c` holds at the end. -/
def finalA (c : Dev nD) (w : Fin cfg0.W) : Buf (Elt F) ((cfg0.win w).arr.view.loc (c : Thread nD τ)) := (dats m ρ 0 c).arrAt w cfg0.N

/-- The end state: every window's array as computed, and the two sharded arguments as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)
    ∧ r.2.mem ((c : Thread nD τ).loc main_arg1) = m ((c : Thread nD τ).loc main_arg1)

set_option maxRecDepth 8000 in
/-- On the mesh of eight devices, for any float values, from any memory with every counter at zero: every weakly fair
    execution of the program ends, with the result's array of every device at the computed contents, the arguments as they
    were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := Gd m) (u₀ := u₀)
    (hu₀ := fund m)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => (s.mem ((c : Thread nD τ).loc main_arg0) = m ((c : Thread nD τ).loc main_arg0) ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      unfold left xWhole wWhole
      iintro ⟨⟨Hu, Hx, Hw⟩, -, HSI⟩
      icombine HSI Hx gives %hx
      icombine HSI Hw gives %hw
      imod (Pipeline.unscopedSems0_read (X := unscopedSems0 c) (c := c) fupd_intro s') $$ [Hu HSI] with ⟨%hz, HSI⟩
      · isplitl [Hu] <;> iassumption
      imodintro
      isplitr; · ipureintro; exact ⟨⟨Buf.eq_of_forall_mem_univ hx, Buf.eq_of_forall_mem_univ hw⟩, hz⟩
      iexact HSI)
    (hQ := fun _ h hs => ⟨fun c => ⟨fun w => (h c).1 w, (h c).2.2.1⟩, sem_eq_zero hs fun c => (h c).2.2.2⟩)

/-- The scale arrays hold at the end what they held. -/
theorem finalA_arg2 (c : Dev nD) : finalA m ρ c (0 : Fin 3) = m ((c : Thread nD τ).loc main_arg2) :=
  (dats (F := F) m ρ 0 c).arrAt_in (0 : Fin 3) rfl _
theorem finalA_arg3 (c : Dev nD) : finalA m ρ c (1 : Fin 3) = m ((c : Thread nD τ).loc main_arg3) :=
  (dats (F := F) m ρ 0 c).arrAt_in (1 : Fin 3) rfl _

end Cert.KernelIdeal.Exchange
-- ==== Proof.KernelIdeal.Product.lean ====
/-
What one device's computation is, entry by entry, over the extended reals: the products of its eight pairs of blocks
are added, the sum is scaled, and the tail is applied.
-/
module

public import proofs.«01_k».proof.Proof.KernelIdeal.Body
public import Idealize.ShloMosaic.Lib.Pointwise

@[expose] public section

set_option maxRecDepth 16384

noncomputable section

namespace Cert.KernelIdeal.Exchange

open Cert.KernelIdeal Cert.KernelIdeal.Gen

open Idealize.ShloMosaic
open Idealize.ShloMosaic.TcCoe

/-- Entry `(r, l)` of the product of a 512 × 512 block with a 512 × 1024 block. -/
def prod (g : S1x512x512.Idx → EReal) (w : S1x512x1024.Idx → EReal) (r : Fin 512) (l : Fin 1024) : EReal :=
  ∑ k : Fin 512, g (ix3 0 r k) * w (ix3 0 k l)

/-- The last step of the computation, on one number: clamp to ±60, negate, exponentiate, and divide by one more. -/
def tail (y : EReal) : EReal :=
  Ideal.div y (1 + Ideal.exp (-(min (Ideal.ofBits .f32 0x42700000#32) (max (Ideal.ofBits .f32 0xC2700000#32) y))))

/-! Each step of the sum, at one entry: the first block's product, then seven products added in turn. -/

theorem left_first (g : Vec Ideal S1x512x512 .fp8e5m2) (w : Vec Ideal S1x512x1024 .f32) (r : Fin 512) (l : Fin 1024) :
    (k0_pay13 g w : FVec Ideal S512x1024 .f32) (ix2 r l) = prod g w r l := by
  pointwise [k0_pay13, k0_pay12, prod]

theorem right_first (g : Vec Ideal S1x512x512 .fp8e5m2) (w : Vec Ideal S1x512x1024 .f32) (r : Fin 512) (l : Fin 1024) :
    (k0_pay14 g w : FVec Ideal S512x1024 .f32) (ix2 r l) = prod g w r l := by
  pointwise [k0_pay14, k0_pay12, prod]

theorem left_1 (a : FVec Ideal S512x1024 .f32) (g : Vec Ideal S1x512x512 .fp8e5m2) (w : Vec Ideal S1x512x1024 .f32) (r : Fin 512) (l : Fin 1024) :
    k0_pay16 a (k0_pay15 g) w (ix2 r l) = a (ix2 r l) + prod g w r l := by
  pointwise [k0_pay16, k0_pay15, prod]

theorem left_3 (a : FVec Ideal S512x1024 .f32) (g : Vec Ideal S1x512x512 .fp8e5m2) (w : Vec Ideal S1x512x1024 .f32) (r : Fin 512) (l : Fin 1024) :
    k0_pay19 a g w (ix2 r l) = a (ix2 r l) + prod g w r l := by
  pointwise [k0_pay19, k0_pay18, prod]

theorem left_2 (a : FVec Ideal S512x1024 .f32) (g : Vec Ideal S1x512x512 .fp8e5m2) (w : Vec Ideal S1x512x1024 .f32) (r : Fin 512) (l : Fin 1024) :
    k0_pay22 a g w (ix2 r l) = a (ix2 r l) + prod g w r l := by
  pointwise [k0_pay22, k0_pay21, prod]

theorem left_4 (a : FVec Ideal S512x1024 .f32) (g : Vec Ideal S1x512x512 .fp8e5m2) (w : Vec Ideal S1x512x1024 .f32) (r : Fin 512) (l : Fin 1024) :
    k0_pay25 a g w (ix2 r l) = a (ix2 r l) + prod g w r l := by
  pointwise [k0_pay25, k0_pay24, prod]

theorem left_5 (a : FVec Ideal S512x1024 .f32) (g : Vec Ideal S1x512x512 .fp8e5m2) (w : Vec Ideal S1x512x1024 .f32) (r : Fin 512) (l : Fin 1024) :
    k0_pay29 a g w (ix2 r l) = a (ix2 r l) + prod g w r l := by
  pointwise [k0_pay29, k0_pay28, prod]

theorem left_7 (a : FVec Ideal S512x1024 .f32) (g : Vec Ideal S1x512x512 .fp8e5m2) (w : Vec Ideal S1x512x1024 .f32) (r : Fin 512) (l : Fin 1024) :
    k0_pay33 a g w (ix2 r l) = a (ix2 r l) + prod g w r l := by
  pointwise [k0_pay33, k0_pay32, prod]

theorem right_1 (a : FVec Ideal S512x1024 .f32) (g : Vec Ideal S1x512x512 .fp8e5m2) (w : Vec Ideal S1x512x1024 .f32) (r : Fin 512) (l : Fin 1024) :
    k0_pay17 a (k0_pay15 g) w (ix2 r l) = a (ix2 r l) + prod g w r l := by
  pointwise [k0_pay17, k0_pay15, prod]

theorem right_3 (a : FVec Ideal S512x1024 .f32) (g : Vec Ideal S1x512x512 .fp8e5m2) (w : Vec Ideal S1x512x1024 .f32) (r : Fin 512) (l : Fin 1024) :
    k0_pay20 a g w (ix2 r l) = a (ix2 r l) + prod g w r l := by
  pointwise [k0_pay20, k0_pay18, prod]

theorem right_2 (a : FVec Ideal S512x1024 .f32) (g : Vec Ideal S1x512x512 .fp8e5m2) (w : Vec Ideal S1x512x1024 .f32) (r : Fin 512) (l : Fin 1024) :
    k0_pay23 a g w (ix2 r l) = a (ix2 r l) + prod g w r l := by
  pointwise [k0_pay23, k0_pay21, prod]

theorem right_4 (a : FVec Ideal S512x1024 .f32) (g : Vec Ideal S1x512x512 .fp8e5m2) (w : Vec Ideal S1x512x1024 .f32) (r : Fin 512) (l : Fin 1024) :
    k0_pay27 a (k0_pay24 g) (k0_pay26 w) (ix2 r l) = a (ix2 r l) + prod g w r l := by
  pointwise [k0_pay27, k0_pay24, k0_pay26, prod]

theorem right_5 (a : FVec Ideal S512x1024 .f32) (g : Vec Ideal S1x512x512 .fp8e5m2) (w : Vec Ideal S1x512x1024 .f32) (r : Fin 512) (l : Fin 1024) :
    k0_pay31 a (k0_pay28 g) (k0_pay30 w) (ix2 r l) = a (ix2 r l) + prod g w r l := by
  pointwise [k0_pay31, k0_pay28, k0_pay30, prod]

theorem right_7 (a : FVec Ideal S512x1024 .f32) (g : Vec Ideal S1x512x512 .fp8e5m2) (w : Vec Ideal S1x512x1024 .f32) (r : Fin 512) (l : Fin 1024) :
    k0_pay34 a (k0_pay32 g) w (ix2 r l) = a (ix2 r l) + prod g w r l := by
  pointwise [k0_pay34, k0_pay32, prod]

/-! The last product, the scale and the tail. -/

theorem left_6 (s : Ideal .f32) (a : FVec Ideal S512x1024 .f32) (g : Vec Ideal S1x512x512 .fp8e5m2) (w : Vec Ideal S1x512x1024 .f32) (r : Fin 512) (l : Fin 1024) :
    k0_pay36 s a g w (ix2 r l) = (a (ix2 r l) + prod g w r l) * s := by
  pointwise [k0_pay36, k0_pay35, prod]

/-- The kernel multiplies by the reciprocal of the denominator, which is never zero, and subtracts from zero. -/
theorem tail_eq (y : EReal) :
    y * Ideal.div 1 (1 + Ideal.exp (0 - min (Ideal.ofBits .f32 0x42700000#32) (max (Ideal.ofBits .f32 0xC2700000#32) y))) = tail y := by
  have h0 (x : EReal) : 0 ≤ Ideal.exp x := by
    induction x with
    | bot => exact le_rfl
    | top => exact le_top
    | coe x => exact EReal.coe_nonneg.mpr (Real.exp_pos x).le
  have h1 (x : EReal) : (1 : EReal) + Ideal.exp x ≠ 0 := by
    have h : (0 : EReal) < 1 + Ideal.exp x := lt_of_lt_of_le zero_lt_one (le_add_of_nonneg_right (h0 x))
    exact h.ne'
  rw [zero_sub]
  simp only [tail, Ideal.div, h1, if_false, one_mul]

/-- The tail of the left half, -/
theorem left_tail (a : FVec Ideal S512x1024 .f32) (r : Fin 512) (l : Fin 1024) :
    k0_pay37 a (Scalar.ofBits .f32 0xC2700000#32) (ix2 r l) = tail (a (ix2 r l)) := by
  pointwise [k0_pay37]
  exact tail_eq _

/-- and the last product, scale and tail of the right half, taken together. -/
theorem right_6 (s : Ideal .f32) (a : FVec Ideal S512x1024 .f32) (g : Vec Ideal S1x512x512 .fp8e5m2) (w : Vec Ideal S1x512x1024 .f32) (r : Fin 512) (l : Fin 1024) :
    k0_pay38 s a (k0_pay35 g) w (ix2 r l) = tail ((a (ix2 r l) + prod g w r l) * s) := by
  pointwise [k0_pay38, k0_pay35, prod]
  exact tail_eq _

/-- The eight products, added in the order the kernel takes them, are their sum. -/
theorem eight (f : Fin 8 → EReal) : f 0 + f 1 + f 3 + f 2 + f 4 + f 5 + f 7 + f 6 = ∑ k, f k := by
  simp only [Fin.sum_univ_eight]; ac_rfl

/-- An entry of the left half of the result, -/
theorem outL_apply (s : Ideal .f32) (g : Fin 8 → Vec Ideal S1x512x512 .fp8e5m2) (w : Fin 8 → Vec Ideal S1x512x1024 .f32) (r : Fin 512) (l : Fin 1024) :
    outL s g w (ix2 r l) = tail ((∑ k, prod (g k) (w k) r l) * s) := by
  unfold outL
  rw [left_tail, left_6, left_7, left_5, left_4, left_2, left_3, left_1, left_first, eight (fun k => prod (g k) (w k) r l)]

/-- and of the right half. -/
theorem outR_apply (s : Ideal .f32) (g : Fin 8 → Vec Ideal S1x512x512 .fp8e5m2) (w : Fin 8 → Vec Ideal S1x512x1024 .f32) (r : Fin 512) (l : Fin 1024) :
    outR s g w (ix2 r l) = tail ((∑ k, prod (g k) (w k) r l) * s) := by
  unfold outR
  rw [right_6, right_7, right_5, right_4, right_2, right_3, right_1, right_first, eight (fun k => prod (g k) (w k) r l)]

end Cert.KernelIdeal.Exchange

end
-- ==== Proof.KernelIdeal.Reference.lean ====
/-
What the reference's result holds, entry by entry, over the extended reals.
-/
module

public import proofs.«01_k».proof.Proof.KernelIdeal.Product
public import proofs.«01_k».proof.Proof.Gen.ReferenceIdeal.Run

@[expose] public section

set_option maxRecDepth 16384

noncomputable section

namespace Cert.KernelIdeal.Exchange

open Cert.KernelIdeal Cert.KernelIdeal.Gen

open Idealize.ShloMosaic
open Idealize.ShloMosaic.TcCoe

/-- The reference's result, as its program composes it of its four arguments. -/
def refOut (X : FVec Ideal Cert.ReferenceIdeal.S4096x4096 .f32) (W : FVec Ideal Cert.ReferenceIdeal.S4096x2048 .f32)
    (sx sw : FVec Ideal Cert.ReferenceIdeal.S1 .f32) : FVec Ideal Cert.ReferenceIdeal.S4096x2048 .f32 :=
  open Cert.ReferenceIdeal Cert.ReferenceIdeal.Gen in
  Host.divf
    (mulf (Host.dotGeneral dot_S4096x4096_S4096x2048_S4096x2048_1_0_0_1_n_n none X W)
      (broadcastInDim S4096x2048 ![0, 1] bcast_S1x1_S4096x2048_0_1 (broadcastInDim S1x1 ![1] bcast_S1_S1x1_1 (mulf sx sw))))
    (addf (broadcastInDim S4096x2048 ![] bcast_S_S4096x2048 (constant S_ .f32 0x3F800000#32))
      (Host.exp (Host.negf (minimumf (broadcastInDim S4096x2048 ![] bcast_S_S4096x2048 (id (constant S_ .f32 0x42700000#32)))
        (maximumf (broadcastInDim S4096x2048 ![] bcast_S_S4096x2048 (id (constant S_ .f32 0xC2700000#32)))
          (mulf (Host.dotGeneral dot_S4096x4096_S4096x2048_S4096x2048_1_0_0_1_n_n none X W)
            (broadcastInDim S4096x2048 ![0, 1] bcast_S1x1_S4096x2048_0_1 (broadcastInDim S1x1 ![1] bcast_S1_S1x1_1 (mulf sx sw)))))))))

/-- An entry of it: the whole product, the scale, the tail. -/
theorem refOut_apply (X : FVec Ideal Cert.ReferenceIdeal.S4096x4096 .f32) (W : FVec Ideal Cert.ReferenceIdeal.S4096x2048 .f32)
    (sx sw : FVec Ideal Cert.ReferenceIdeal.S1 .f32) (R : Fin 4096) (L : Fin 2048) :
    refOut X W sx sw (ix2 R L) = tail ((∑ k : Fin 4096, X (ix2 R k) * W (ix2 k L)) * (sx (ix1 0) * sw (ix1 0))) := by
  pointwise [refOut, tail, id]

end Cert.KernelIdeal.Exchange

end
-- ==== Proof.KernelIdeal.Value.lean ====
/-
The equation: on every device the result's array ends at the device's rows of the reference's result. The axis of 4096
that the reference sums over is eight runs of 512, one for each partner of the device, and a sum over it is the sum of the
eight products whatever order they are added in.
-/
module

public import proofs.«01_k».proof.Proof.KernelIdeal.Run
public import proofs.«01_k».proof.Proof.KernelIdeal.Reference
public import Idealize.ShloMosaic.Lib.Layout
public import Idealize.ShloMosaic.Lib.Pipeline.ValueKit

@[expose] public section

set_option maxRecDepth 16384

noncomputable section

namespace Cert.KernelIdeal.Exchange

open Cert.KernelIdeal Cert.KernelIdeal.Gen

open Idealize.ShloMosaic
open Idealize.ShloMosaic.TcCoe

/-- Entry `512 b + k` of an axis of 4096. -/
def wide (b : Dev nD) (k : Fin 512) : Fin 4096 := ⟨512 * b.val + k.val, by have := b.isLt; have := k.isLt; simp only [nD] at *; omega⟩

/-- The axis of 4096 as eight runs of 512. -/
def runs : Dev nD × Fin 512 ≃ Fin 4096 where
  toFun p := wide p.1 p.2
  invFun i := (⟨i.val / 512, by have := i.isLt; simp only [nD]; omega⟩, ⟨i.val % 512, Nat.mod_lt _ (by decide)⟩)
  left_inv p := by
    have := p.2.isLt
    refine Prod.ext (Fin.ext ?_) (Fin.ext ?_) <;> simp only [wide] <;> omega
  right_inv i := Fin.ext (by simp only [wide]; omega)

/-- A sum over the axis is the sum, over a device's partners in any order, of the sums over the runs. -/
theorem sum_runs (c : Dev nD) (f : Fin 4096 → EReal) : ∑ j : Fin 8, ∑ k : Fin 512, f (wide (px j c) k) = ∑ i, f i :=
  ((partners c).sum_comp fun d => ∑ k : Fin 512, f (wide d k)).trans
    ((Fintype.sum_prod_type' fun d k => f (wide d k)).symm.trans (runs.sum_comp f))

variable (m : (ℓ : Loc nD τ sig) → Buf (Elt Ideal) ℓ) (ρ : Dev nD → PrngReg)

/-- The result's array ends at the contents of its buffer. -/
theorem finalA_out (c : Dev nD) : finalA m ρ c 2 = result m ρ c :=
  Pipeline.Dat.arrAt_eq_of_after_last (dats m ρ 0 c) 2 t0_0 (by decide +kernel) (result m ρ c) (fun j => rfl)

/-- The two scale words are the launch contents of their arguments. -/
theorem word_sc0 (c : Dev nD) : word (sc0 m ρ c) = (m ((c : Thread nD τ).loc main_arg2) : S1.Idx → Ideal .f32) (ix1 0) :=
  congrArg (m ((c : Thread nD τ).loc main_arg2) : S1.Idx → Ideal .f32) (funext fun a => by fin_cases a; rfl)
theorem word_sc1 (c : Dev nD) : word (sc1 m ρ c) = (m ((c : Thread nD τ).loc main_arg3) : S1.Idx → Ideal .f32) (ix1 0) :=
  congrArg (m ((c : Thread nD τ).loc main_arg3) : S1.Idx → Ideal .f32) (funext fun a => by fin_cases a; rfl)

section Agree

variable (X : FVec Ideal Cert.ReferenceIdeal.S4096x4096 .f32) (W : FVec Ideal Cert.ReferenceIdeal.S4096x2048 .f32)

/-- The block that device `s` sends to device `c`, over the whole `X`. -/
theorem gVec_apply (h0 : ∀ d : Dev nD, m ((d : Thread nD τ).loc main_arg0) = Layout.block ⟨2, ![4096, 512]⟩ ⟨2, ![4096, 4096]⟩ 1 8 d X)
    (c s : Dev nD) (r k : Fin 512) :
    gVec m c s (ix3 0 r k) = X (ix2 (wide c r) (wide s k)) := by
  show (m ((s : Thread nD τ).loc main_arg0) : S4096x512.Idx → Ideal .f32) (at512 c r k) = _
  rw [h0 s]
  refine congrArg X (funext fun a => Fin.ext ?_)
  fin_cases a
  · rfl
  · show s.val * 512 + k.val = 512 * s.val + k.val
    omega

/-- Block `b` of the rows of `W`, its left half, -/
theorem wVecL_apply (h1 : ∀ d : Dev nD, m ((d : Thread nD τ).loc main_arg1) = W) (c b : Dev nD) (k : Fin 512) (l : Fin 1024) :
    wVecL m c b (ix3 0 k l) = W (ix2 (wide b k) ⟨l.val, by omega⟩) := by
  show (m ((c : Thread nD τ).loc main_arg1) : S4096x2048.Idx → Ideal .f32) (at2048 b k ⟨l.val, by omega⟩) = _
  rw [h1 c]
  exact congrArg W (funext fun a => by fin_cases a <;> rfl)

/-- and its right half. -/
theorem wVecR_apply (h1 : ∀ d : Dev nD, m ((d : Thread nD τ).loc main_arg1) = W) (c b : Dev nD) (k : Fin 512) (l : Fin 1024) :
    wVecR m c b (ix3 0 k l) = W (ix2 (wide b k) ⟨1024 + l.val, by omega⟩) := by
  show (m ((c : Thread nD τ).loc main_arg1) : S4096x2048.Idx → Ideal .f32) (at2048 b k ⟨1024 + l.val, by omega⟩) = _
  rw [h1 c]
  exact congrArg W (funext fun a => by fin_cases a <;> rfl)

/-- A device's eight products make up its rows of the whole product: the left half, -/
theorem sum_left (h0 : ∀ d : Dev nD, m ((d : Thread nD τ).loc main_arg0) = Layout.block ⟨2, ![4096, 512]⟩ ⟨2, ![4096, 4096]⟩ 1 8 d X)
    (h1 : ∀ d : Dev nD, m ((d : Thread nD τ).loc main_arg1) = W) (c : Dev nD) (r : Fin 512) (l : Fin 1024) :
    ∑ j, prod (gVec m c (px j c)) (wVecL m c (px j c)) r l = ∑ i : Fin 4096, X (ix2 (wide c r) i) * W (ix2 i ⟨l.val, by omega⟩) := by
  rw [← sum_runs c]
  exact Finset.sum_congr rfl fun j _ => Finset.sum_congr rfl fun k _ =>
    congrArg₂ (· * ·) (gVec_apply m X h0 c (px j c) r k) (wVecL_apply m W h1 c (px j c) k l)

/-- and the right half. -/
theorem sum_right (h0 : ∀ d : Dev nD, m ((d : Thread nD τ).loc main_arg0) = Layout.block ⟨2, ![4096, 512]⟩ ⟨2, ![4096, 4096]⟩ 1 8 d X)
    (h1 : ∀ d : Dev nD, m ((d : Thread nD τ).loc main_arg1) = W) (c : Dev nD) (r : Fin 512) (l : Fin 1024) :
    ∑ j, prod (gVec m c (px j c)) (wVecR m c (px j c)) r l = ∑ i : Fin 4096, X (ix2 (wide c r) i) * W (ix2 i ⟨1024 + l.val, by omega⟩) := by
  rw [← sum_runs c]
  exact Finset.sum_congr rfl fun j _ => Finset.sum_congr rfl fun k _ =>
    congrArg₂ (· * ·) (gVec_apply m X h0 c (px j c) r k) (wVecR_apply m W h1 c (px j c) k l)

end Agree

/-- If the devices' arguments are the blocks of `X`, and copies of `W` and of the two scales, then device `c` ends with
    block `c` of the rows of the reference's result. -/
theorem result_eq (X : FVec Ideal Cert.ReferenceIdeal.S4096x4096 .f32) (W : FVec Ideal Cert.ReferenceIdeal.S4096x2048 .f32)
    (sx sw : FVec Ideal Cert.ReferenceIdeal.S1 .f32)
    (h0 : ∀ d : Dev nD, m ((d : Thread nD τ).loc main_arg0) = Layout.block ⟨2, ![4096, 512]⟩ ⟨2, ![4096, 4096]⟩ 1 8 d X)
    (h1 : ∀ d : Dev nD, m ((d : Thread nD τ).loc main_arg1) = W) (h2 : ∀ d : Dev nD, m ((d : Thread nD τ).loc main_arg2) = sx)
    (h3 : ∀ d : Dev nD, m ((d : Thread nD τ).loc main_arg3) = sw) (c : Dev nD) :
    result m ρ c = Layout.block ⟨2, ![512, 2048]⟩ ⟨2, ![4096, 2048]⟩ 0 8 c (refOut X W sx sw) := by
  have hs : k0_pay11 (word (sc0 m ρ c)) (word (sc1 m ρ c)) = sx (ix1 0) * sw (ix1 0) := by
    rw [word_sc0, word_sc1, h2 c, h3 c]; rfl
  funext i
  obtain ⟨r, l, rfl⟩ : ∃ (r : Fin 512) (l : Fin 2048), i = ix2 r l := ⟨i 0, i 1, eq_ix2 i⟩
  have hb : Layout.block ⟨2, ![512, 2048]⟩ ⟨2, ![4096, 2048]⟩ 0 8 c (refOut X W sx sw) (by decide) (ix2 r l) = refOut X W sx sw (ix2 (wide c r) l) := by
    refine congrArg (refOut X W sx sw) (funext fun a => Fin.ext ?_)
    fin_cases a
    · show c.val * 512 + r.val = 512 * c.val + r.val
      omega
    · rfl
  rw [hb, refOut_apply]
  unfold result outAt
  rw [hs]
  by_cases h : l.val < 1024
  · refine (dif_pos h).trans ((outL_apply _ _ _ r ⟨l.val, h⟩).trans ?_)
    rw [sum_left m X W h0 h1 c r ⟨l.val, h⟩]
  · refine (dif_neg h).trans ((outR_apply _ _ _ r ⟨l.val - 1024, by omega⟩).trans ?_)
    rw [sum_right m X W h0 h1 c r ⟨l.val - 1024, by omega⟩]
    have hl : (⟨1024 + (l.val - 1024), by omega⟩ : Fin 2048) = l := Fin.ext (by show 1024 + (l.val - 1024) = l.val; omega)
    rw [hl]

end Cert.KernelIdeal.Exchange

end
-- ==== Proof.lean ====
/-
The claims of `Cert.Claim`, assembled: the kernel and its idealization end on every schedule with their arguments unchanged
and every semaphore counter at zero (Proof/Kernel/Run.lean, Proof/KernelIdeal/Run.lean), the reference does, and over the
extended reals every device ends with its rows of the reference's result (Proof/KernelIdeal/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel ends from any memory, on any schedule, with its arguments as they were and every semaphore counter at zero. -/
theorem frame_kernel : Cert.quiescent_Kernel := fun m ρ _ =>
  (θ_run Cert.Kernel.defs _ _).mono (fun _ h => ⟨fun c =>
      ⟨(h.1 c).2.1, (h.1 c).2.2, ((h.1 c).1 0).trans (Cert.Kernel.Exchange.finalA_arg2 m ρ c), ((h.1 c).1 1).trans (Cert.Kernel.Exchange.finalA_arg3 m ρ c)⟩, h.2⟩)
    (Cert.Kernel.Exchange.run_main (F := Bits) m ρ)

/-- The same of the kernel read over the extended reals. -/
theorem frame_kernelIdeal : Cert.quiescent_KernelIdeal := fun m ρ _ =>
  (θ_run Cert.KernelIdeal.defs _ _).mono (fun _ h => ⟨fun c =>
      ⟨(h.1 c).2.1, (h.1 c).2.2, ((h.1 c).1 0).trans (Cert.KernelIdeal.Exchange.finalA_arg2 m ρ c), ((h.1 c).1 1).trans (Cert.KernelIdeal.Exchange.finalA_arg3 m ρ c)⟩, h.2⟩)
    (Cert.KernelIdeal.Exchange.run_main (F := Ideal) m ρ)

/-- The reference is a straight line of host operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c` ends with block `c` of the rows of the reference's result. -/
theorem value : Cert.algebraic_KernelIdeal_ReferenceIdeal := by
  intro m ρ m' ρ' _ hagree
  refine ⟨Cert.KernelIdeal.Exchange.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun _ h c =>
      ⟨((h.1 c).1 2).trans ((Cert.KernelIdeal.Exchange.finalA_out m ρ c).trans ?_), (h.1 c).2.1, (h.1 c).2.2,
        ((h.1 c).1 0).trans (Cert.KernelIdeal.Exchange.finalA_arg2 m ρ c), ((h.1 c).1 1).trans (Cert.KernelIdeal.Exchange.finalA_arg3 m ρ c)⟩)
      (Cert.KernelIdeal.Exchange.run_main (F := Ideal) m ρ)
    exact Cert.KernelIdeal.Exchange.result_eq m ρ _ _ _ _ (fun d => (hagree d).1) (fun d => (hagree d).2.1) (fun d => (hagree d).2.2.1) (fun d => (hagree d).2.2.2) c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, value⟩

end Cert.Proof

end
